-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1x7168 : Shape := ⟨3, ![32, 1, 7168]⟩
abbrev S9216x3584 : Shape := ⟨2, ![9216, 3584]⟩
abbrev S9216x224 : Shape := ⟨2, ![9216, 224]⟩
abbrev S7168x4608 : Shape := ⟨2, ![7168, 4608]⟩
abbrev S7168x288 : Shape := ⟨2, ![7168, 288]⟩
abbrev S_ : Shape := ⟨0, ![]⟩

class Facts : Prop where
  natLt_16_32 : 16 < 32
  bcast_S_S9216x224 : S_.BroadcastsInDim S9216x224 (![] : Fin 0 → Fin S9216x224.rank)
  reducesTo_S9216x224_S_d0_1 : S9216x224.ReducesTo [0, 1] S_
  h_S_ : 0 < S_.numel
  bcast_S_S7168x288 : S_.BroadcastsInDim S7168x288 (![] : Fin 0 → Fin S7168x288.rank)
  reducesTo_S7168x288_S_d0_1 : S7168x288.ReducesTo [0, 1] S_

variable [Facts]

def fn_part2 {F : FTy → Type} [FloatOps F] (main_arg9 : IVec S7168x288 16) (main_v26 : IVec S_ 1) (main_v32 : IVec S_ 1) : IVec S_ 1 :=
  let main_v33 : IVec S_ 1 := andi main_v26 main_v32
  let main_v34 : IVec S7168x288 32 := (extsi 32 · natLt_16_32) main_arg9
  let main_c_14 : IVec S_ 32 := constantI S_ 32 31744#32
  let main_v35 : IVec S7168x288 32 := broadcastInDim S7168x288 ![] bcast_S_S7168x288 main_c_14
  let main_v36 : IVec S7168x288 32 := andi main_v34 main_v35
  let main_c_15 : IVec S_ 32 := constantI S_ 32 31744#32
  let main_v37 : IVec S7168x288 32 := broadcastInDim S7168x288 ![] bcast_S_S7168x288 main_c_15
  let main_v38 : IVec S7168x288 1 := cmpi .ne main_v36 main_v37
  let main_c_16 : IVec S_ 1 := constantI S_ 1 1#1
  let main_v39 : IVec S_ 1 := (fun x v => Host.reduce IntOp.andi x v reducesTo_S7168x288_S_d0_1 h_S_) main_v38 main_c_16
  let main_v40 : IVec S_ 1 := andi main_v33 main_v39
  main_v40

def fn_part1 {F : FTy → Type} [FloatOps F] (main_arg6 : IVec S9216x224 16) (main_arg8 : IVec S7168x288 16) (main_arg9 : IVec S7168x288 16) (main_v12 : IVec S_ 1) (main_v15 : IVec S9216x224 32) (main_c_6 : IVec S_ 32) : IVec S_ 1 :=
  let main_v16 : IVec S9216x224 32 := broadcastInDim S9216x224 ![] bcast_S_S9216x224 main_c_6
  let main_v17 : IVec S9216x224 1 := cmpi .ne main_v15 main_v16
  let main_c_7 : IVec S_ 1 := constantI S_ 1 1#1
  let main_v18 : IVec S_ 1 := (fun x v => Host.reduce IntOp.andi x v reducesTo_S9216x224_S_d0_1 h_S_) main_v17 main_c_7
  let main_v19 : IVec S_ 1 := andi main_v12 main_v18
  let main_v20 : IVec S9216x224 32 := (extsi 32 · natLt_16_32) main_arg6
  let main_c_8 : IVec S_ 32 := constantI S_ 32 31744#32
  let main_v21 : IVec S9216x224 32 := broadcastInDim S9216x224 ![] bcast_S_S9216x224 main_c_8
  let main_v22 : IVec S9216x224 32 := andi main_v20 main_v21
  let main_c_9 : IVec S_ 32 := constantI S_ 32 31744#32
  let main_v23 : IVec S9216x224 32 := broadcastInDim S9216x224 ![] bcast_S_S9216x224 main_c_9
  let main_v24 : IVec S9216x224 1 := cmpi .ne main_v22 main_v23
  let main_c_10 : IVec S_ 1 := constantI S_ 1 1#1
  let main_v25 : IVec S_ 1 := (fun x v => Host.reduce IntOp.andi x v reducesTo_S9216x224_S_d0_1 h_S_) main_v24 main_c_10
  let main_v26 : IVec S_ 1 := andi main_v19 main_v25
  let main_v27 : IVec S7168x288 32 := (extsi 32 · natLt_16_32) main_arg8
  let main_c_11 : IVec S_ 32 := constantI S_ 32 31744#32
  let main_v28 : IVec S7168x288 32 := broadcastInDim S7168x288 ![] bcast_S_S7168x288 main_c_11
  let main_v29 : IVec S7168x288 32 := andi main_v27 main_v28
  let main_c_12 : IVec S_ 32 := constantI S_ 32 31744#32
  let main_v30 : IVec S7168x288 32 := broadcastInDim S7168x288 ![] bcast_S_S7168x288 main_c_12
  let main_v31 : IVec S7168x288 1 := cmpi .ne main_v29 main_v30
  let main_c_13 : IVec S_ 1 := constantI S_ 1 1#1
  let main_v32 : IVec S_ 1 := (fun x v => Host.reduce IntOp.andi x v reducesTo_S7168x288_S_d0_1 h_S_) main_v31 main_c_13
  fn_part2 (F := F) main_arg9 main_v26 main_v32

def fn {F : FTy → Type} [FloatOps F] (main_arg0 : FVec F S32x1x7168 .bf16) (main_arg1 : IVec S9216x3584 8) (main_arg2 : IVec S9216x224 16) (main_arg3 : IVec S9216x224 16) (main_arg4 : IVec S9216x3584 8) (main_arg5 : IVec S9216x224 16) (main_arg6 : IVec S9216x224 16) (main_arg7 : IVec S7168x4608 8) (main_arg8 : IVec S7168x288 16) (main_arg9 : IVec S7168x288 16) : IVec S_ 1 :=
  let main_v0 : IVec S9216x224 32 := (extsi 32 · natLt_16_32) main_arg2
  let main_c : IVec S_ 32 := constantI S_ 32 31744#32
  let main_v1 : IVec S9216x224 32 := broadcastInDim S9216x224 ![] bcast_S_S9216x224 main_c
  let main_v2 : IVec S9216x224 32 := andi main_v0 main_v1
  let main_c_0 : IVec S_ 32 := constantI S_ 32 31744#32
  let main_v3 : IVec S9216x224 32 := broadcastInDim S9216x224 ![] bcast_S_S9216x224 main_c_0
  let main_v4 : IVec S9216x224 1 := cmpi .ne main_v2 main_v3
  let main_c_1 : IVec S_ 1 := constantI S_ 1 1#1
  let main_v5 : IVec S_ 1 := (fun x v => Host.reduce IntOp.andi x v reducesTo_S9216x224_S_d0_1 h_S_) main_v4 main_c_1
  let main_v6 : IVec S9216x224 32 := (extsi 32 · natLt_16_32) main_arg3
  let main_c_2 : IVec S_ 32 := constantI S_ 32 31744#32
  let main_v7 : IVec S9216x224 32 := broadcastInDim S9216x224 ![] bcast_S_S9216x224 main_c_2
  let main_v8 : IVec S9216x224 32 := andi main_v6 main_v7
  let main_c_3 : IVec S_ 32 := constantI S_ 32 31744#32
  let main_v9 : IVec S9216x224 32 := broadcastInDim S9216x224 ![] bcast_S_S9216x224 main_c_3
  let main_v10 : IVec S9216x224 1 := cmpi .ne main_v8 main_v9
  let main_c_4 : IVec S_ 1 := constantI S_ 1 1#1
  let main_v11 : IVec S_ 1 := (fun x v => Host.reduce IntOp.andi x v reducesTo_S9216x224_S_d0_1 h_S_) main_v10 main_c_4
  let main_v12 : IVec S_ 1 := andi main_v5 main_v11
  let main_v13 : IVec S9216x224 32 := (extsi 32 · natLt_16_32) main_arg5
  let main_c_5 : IVec S_ 32 := constantI S_ 32 31744#32
  let main_v14 : IVec S9216x224 32 := broadcastInDim S9216x224 ![] bcast_S_S9216x224 main_c_5
  let main_v15 : IVec S9216x224 32 := andi main_v13 main_v14
  let main_c_6 : IVec S_ 32 := constantI S_ 32 31744#32
  fn_part1 (F := F) main_arg6 main_arg8 main_arg9 main_v12 main_v15 main_c_6
-- ==== Kernel.lean ====
abbrev S32x1x7168 : Shape := ⟨3, ![32, 1, 7168]⟩
abbrev S9216x3584 : Shape := ⟨2, ![9216, 3584]⟩
abbrev S9216x224 : Shape := ⟨2, ![9216, 224]⟩
abbrev S7168x4608 : Shape := ⟨2, ![7168, 4608]⟩
abbrev S7168x288 : Shape := ⟨2, ![7168, 288]⟩
abbrev S32x7168 : Shape := ⟨2, ![32, 7168]⟩
abbrev S32x224x2x16 : Shape := ⟨4, ![32, 224, 2, 16]⟩
abbrev S32x224x1x16 : Shape := ⟨4, ![32, 224, 1, 16]⟩
abbrev S32x224x16 : Shape := ⟨3, ![32, 224, 16]⟩
abbrev S32x3584 : Shape := ⟨2, ![32, 3584]⟩
abbrev S32x9216 : Shape := ⟨2, ![32, 9216]⟩
abbrev S256x3584 : Shape := ⟨2, ![256, 3584]⟩
abbrev S256x224 : Shape := ⟨2, ![256, 224]⟩
abbrev S32x256 : Shape := ⟨2, ![32, 256]⟩
abbrev S256x128 : Shape := ⟨2, ![256, 128]⟩
abbrev S256x128x1 : Shape := ⟨3, ![256, 128, 1]⟩
abbrev S32x128 : Shape := ⟨2, ![32, 128]⟩
abbrev S256x96 : Shape := ⟨2, ![256, 96]⟩
abbrev S256x32 : Shape := ⟨2, ![256, 32]⟩
abbrev S32x288x2x16 : Shape := ⟨4, ![32, 288, 2, 16]⟩
abbrev S32x288x1x16 : Shape := ⟨4, ![32, 288, 1, 16]⟩
abbrev S32x288x16 : Shape := ⟨3, ![32, 288, 16]⟩
abbrev S32x4608 : Shape := ⟨2, ![32, 4608]⟩
abbrev S256x4608 : Shape := ⟨2, ![256, 4608]⟩
abbrev S256x288 : Shape := ⟨2, ![256, 288]⟩

abbrev nBuf : Space → Nat
  | .hbm => 28
  | .vmem => 26
  | .smem => 0
  | _ => 0

abbrev bufTy : (tb : Table) → Fin (tcTables nBuf tb) → BufTy
  | .hbm, ⟨0, _⟩ => ⟨S32x1x7168, .bf16⟩
  | .hbm, ⟨1, _⟩ => ⟨S9216x3584, .i8⟩
  | .hbm, ⟨2, _⟩ => ⟨S9216x224, .i16⟩
  | .hbm, ⟨3, _⟩ => ⟨S9216x224, .i16⟩
  | .hbm, ⟨4, _⟩ => ⟨S9216x3584, .i8⟩
  | .hbm, ⟨5, _⟩ => ⟨S9216x224, .i16⟩
  | .hbm, ⟨6, _⟩ => ⟨S9216x224, .i16⟩
  | .hbm, ⟨7, _⟩ => ⟨S7168x4608, .i8⟩
  | .hbm, ⟨8, _⟩ => ⟨S7168x288, .i16⟩
  | .hbm, ⟨9, _⟩ => ⟨S7168x288, .i16⟩
  | .hbm, ⟨10, _⟩ => ⟨S32x7168, .bf16⟩
  | .hbm, ⟨11, _⟩ => ⟨S32x224x2x16, .bf16⟩
  | .hbm, ⟨12, _⟩ => ⟨S32x224x1x16, .bf16⟩
  | .hbm, ⟨13, _⟩ => ⟨S32x224x16, .bf16⟩
  | .hbm, ⟨14, _⟩ => ⟨S32x3584, .bf16⟩
  | .hbm, ⟨15, _⟩ => ⟨S32x224x1x16, .bf16⟩
  | .hbm, ⟨16, _⟩ => ⟨S32x224x16, .bf16⟩
  | .hbm, ⟨17, _⟩ => ⟨S32x3584, .bf16⟩
  | .hbm, ⟨18, _⟩ => ⟨S32x9216, .bf16⟩
  | .hbm, ⟨19, _⟩ => ⟨S32x288x2x16, .bf16⟩
  | .hbm, ⟨20, _⟩ => ⟨S32x288x1x16, .bf16⟩
  | .hbm, ⟨21, _⟩ => ⟨S32x288x16, .bf16⟩
  | .hbm, ⟨22, _⟩ => ⟨S32x4608, .bf16⟩
  | .hbm, ⟨23, _⟩ => ⟨S32x288x1x16, .bf16⟩
  | .hbm, ⟨24, _⟩ => ⟨S32x288x16, .bf16⟩
  | .hbm, ⟨25, _⟩ => ⟨S32x4608, .bf16⟩
  | .hbm, ⟨26, _⟩ => ⟨S32x7168, .bf16⟩
  | .hbm, ⟨27, _⟩ => ⟨S32x1x7168, .bf16⟩
  | .local _ .vmem, ⟨0, _⟩ => ⟨S32x3584, .bf16⟩
  | .local _ .vmem, ⟨1, _⟩ => ⟨S32x3584, .bf16⟩
  | .local _ .vmem, ⟨2, _⟩ => ⟨S256x3584, .i8⟩
  | .local _ .vmem, ⟨3, _⟩ => ⟨S256x3584, .i8⟩
  | .local _ .vmem, ⟨4, _⟩ => ⟨S256x224, .i16⟩
  | .local _ .vmem, ⟨5, _⟩ => ⟨S256x224, .i16⟩
  | .local _ .vmem, ⟨6, _⟩ => ⟨S256x224, .i16⟩
  | .local _ .vmem, ⟨7, _⟩ => ⟨S256x224, .i16⟩
  | .local _ .vmem, ⟨8, _⟩ => ⟨S256x3584, .i8⟩
  | .local _ .vmem, ⟨9, _⟩ => ⟨S256x3584, .i8⟩
  | .local _ .vmem, ⟨10, _⟩ => ⟨S256x224, .i16⟩
  | .local _ .vmem, ⟨11, _⟩ => ⟨S256x224, .i16⟩
  | .local _ .vmem, ⟨12, _⟩ => ⟨S256x224, .i16⟩
  | .local _ .vmem, ⟨13, _⟩ => ⟨S256x224, .i16⟩
  | .local _ .vmem, ⟨14, _⟩ => ⟨S32x256, .bf16⟩
  | .local _ .vmem, ⟨15, _⟩ => ⟨S32x256, .bf16⟩
  | .local _ .vmem, ⟨16, _⟩ => ⟨S32x4608, .bf16⟩
  | .local _ .vmem, ⟨17, _⟩ => ⟨S32x4608, .bf16⟩
  | .local _ .vmem, ⟨18, _⟩ => ⟨S256x4608, .i8⟩
  | .local _ .vmem, ⟨19, _⟩ => ⟨S256x4608, .i8⟩
  | .local _ .vmem, ⟨20, _⟩ => ⟨S256x288, .i16⟩
  | .local _ .vmem, ⟨21, _⟩ => ⟨S256x288, .i16⟩
  | .local _ .vmem, ⟨22, _⟩ => ⟨S256x288, .i16⟩
  | .local _ .vmem, ⟨23, _⟩ => ⟨S256x288, .i16⟩
  | .local _ .vmem, ⟨24, _⟩ => ⟨S32x256, .bf16⟩
  | .local _ .vmem, ⟨25, _⟩ => ⟨S32x256, .bf16⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x224 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x224 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x224 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x224 .i16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x4608 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x4608 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4608 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x288 .i16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x288 .i16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S32x1x7168 : Shape := ⟨3, ![32, 1, 7168]⟩
abbrev S9216x3584 : Shape := ⟨2, ![9216, 3584]⟩
abbrev S9216x224 : Shape := ⟨2, ![9216, 224]⟩
abbrev S7168x4608 : Shape := ⟨2, ![7168, 4608]⟩
abbrev S7168x288 : Shape := ⟨2, ![7168, 288]⟩
abbrev S32x7168 : Shape := ⟨2, ![32, 7168]⟩
abbrev S9216x224x16 : Shape := ⟨3, ![9216, 224, 16]⟩
abbrev S9216x224x1 : Shape := ⟨3, ![9216, 224, 1]⟩
abbrev S_ : Shape := ⟨0, ![]⟩
abbrev S32x224x2x16 : Shape := ⟨4, ![32, 224, 2, 16]⟩
abbrev S32x224x1x16 : Shape := ⟨4, ![32, 224, 1, 16]⟩
abbrev S32x224x16 : Shape := ⟨3, ![32, 224, 16]⟩
abbrev S32x3584 : Shape := ⟨2, ![32, 3584]⟩
abbrev S32x9216 : Shape := ⟨2, ![32, 9216]⟩
abbrev S7168x288x16 : Shape := ⟨3, ![7168, 288, 16]⟩
abbrev S7168x288x1 : Shape := ⟨3, ![7168, 288, 1]⟩
abbrev S32x288x2x16 : Shape := ⟨4, ![32, 288, 2, 16]⟩
abbrev S32x288x1x16 : Shape := ⟨4, ![32, 288, 1, 16]⟩
abbrev S32x288x16 : Shape := ⟨3, ![32, 288, 16]⟩
abbrev S32x4608 : Shape := ⟨2, ![32, 4608]⟩

abbrev nBuf : Space → Nat
  | .hbm => 132
  | .vmem => 12
  | .smem => 0
  | _ => 0

abbrev hbmTy0_0 (i : Nat) : BufTy := match i % 128 with
  | 0 => ⟨S32x1x7168, .bf16⟩
  | 1 => ⟨S9216x3584, .i8⟩
  | 2 => ⟨S9216x224, .i16⟩
  | 3 => ⟨S9216x224, .i16⟩
  | 4 => ⟨S9216x3584, .i8⟩
  | 5 => ⟨S9216x224, .i16⟩
  | 6 => ⟨S9216x224, .i16⟩
  | 7 => ⟨S7168x4608, .i8⟩
  | 8 => ⟨S7168x288, .i16⟩
  | 9 => ⟨S7168x288, .i16⟩
  | 10 => ⟨S9216x224, .f32⟩
  | 11 => ⟨S9216x224, .f32⟩
  | 12 => ⟨S9216x224, .f32⟩
  | 13 => ⟨S9216x224, .f32⟩
  | 14 => ⟨S7168x288, .f32⟩
  | 15 => ⟨S7168x288, .f32⟩
  | 16 => ⟨S32x7168, .bf16⟩
  | 17 => ⟨S9216x3584, .i32⟩
  | 18 => ⟨S9216x224x16, .i32⟩
  | 19 => ⟨S9216x224x1, .f32⟩
  | 20 => ⟨S9216x224x1, .f32⟩
  | 21 => ⟨S_, .i32⟩
  | 22 => ⟨S9216x224x16, .i32⟩
  | 23 => ⟨S9216x224x16, .i32⟩
  | 24 => ⟨S9216x224x16, .f32⟩
  | 25 => ⟨S9216x224x16, .f32⟩
  | 26 => ⟨S9216x224x16, .f32⟩
  | 27 => ⟨S9216x224x16, .f32⟩
  | 28 => ⟨S9216x224x16, .f32⟩
  | 29 => ⟨S9216x224x16, .bf16⟩
  | 30 => ⟨S9216x3584, .bf16⟩
  | 31 => ⟨S_, .i32⟩
  | 32 => ⟨S9216x224x16, .i32⟩
  | 33 => ⟨S9216x224x16, .i32⟩
  | 34 => ⟨S9216x224x16, .f32⟩
  | 35 => ⟨S9216x224x16, .f32⟩
  | 36 => ⟨S9216x224x16, .f32⟩
  | 37 => ⟨S9216x224x16, .f32⟩
  | 38 => ⟨S9216x224x16, .f32⟩
  | 39 => ⟨S9216x224x16, .bf16⟩
  | 40 => ⟨S9216x3584, .bf16⟩
  | 41 => ⟨S32x224x2x16, .bf16⟩
  | 42 => ⟨S32x224x1x16, .bf16⟩
  | 43 => ⟨S32x224x16, .bf16⟩
  | 44 => ⟨S32x3584, .bf16⟩
  | 45 => ⟨S32x224x1x16, .bf16⟩
  | 46 => ⟨S32x224x16, .bf16⟩
  | 47 => ⟨S32x3584, .bf16⟩
  | 48 => ⟨S32x9216, .f32⟩
  | 49 => ⟨S32x9216, .f32⟩
  | 50 => ⟨S32x9216, .f32⟩
  | 51 => ⟨S9216x3584, .i32⟩
  | 52 => ⟨S9216x224x16, .i32⟩
  | 53 => ⟨S9216x224x1, .f32⟩
  | 54 => ⟨S9216x224x1, .f32⟩
  | 55 => ⟨S_, .i32⟩
  | 56 => ⟨S9216x224x16, .i32⟩
  | 57 => ⟨S9216x224x16, .i32⟩
  | 58 => ⟨S9216x224x16, .f32⟩
  | 59 => ⟨S9216x224x16, .f32⟩
  | 60 => ⟨S9216x224x16, .f32⟩
  | 61 => ⟨S9216x224x16, .f32⟩
  | 62 => ⟨S9216x224x16, .f32⟩
  | 63 => ⟨S9216x224x16, .bf16⟩
  | 64 => ⟨S9216x3584, .bf16⟩
  | 65 => ⟨S_, .i32⟩
  | 66 => ⟨S9216x224x16, .i32⟩
  | 67 => ⟨S9216x224x16, .i32⟩
  | 68 => ⟨S9216x224x16, .f32⟩
  | 69 => ⟨S9216x224x16, .f32⟩
  | 70 => ⟨S9216x224x16, .f32⟩
  | 71 => ⟨S9216x224x16, .f32⟩
  | 72 => ⟨S9216x224x16, .f32⟩
  | 73 => ⟨S9216x224x16, .bf16⟩
  | 74 => ⟨S9216x3584, .bf16⟩
  | 75 => ⟨S32x224x2x16, .bf16⟩
  | 76 => ⟨S32x224x1x16, .bf16⟩
  | 77 => ⟨S32x224x16, .bf16⟩
  | 78 => ⟨S32x3584, .bf16⟩
  | 79 => ⟨S32x224x1x16, .bf16⟩
  | 80 => ⟨S32x224x16, .bf16⟩
  | 81 => ⟨S32x3584, .bf16⟩
  | 82 => ⟨S32x9216, .f32⟩
  | 83 => ⟨S32x9216, .f32⟩
  | 84 => ⟨S32x9216, .f32⟩
  | 85 => ⟨S32x9216, .f32⟩
  | 86 => ⟨S32x9216, .f32⟩
  | 87 => ⟨S_, .f32⟩
  | 88 => ⟨S32x9216, .f32⟩
  | 89 => ⟨S32x9216, .f32⟩
  | 90 => ⟨S_, .f32⟩
  | 91 => ⟨S32x9216, .f32⟩
  | 92 => ⟨S32x9216, .f32⟩
  | 93 => ⟨S32x9216, .f32⟩
  | 94 => ⟨S32x9216, .f32⟩
  | 95 => ⟨S32x9216, .bf16⟩
  | 96 => ⟨S7168x4608, .i32⟩
  | 97 => ⟨S7168x288x16, .i32⟩
  | 98 => ⟨S7168x288x1, .f32⟩
  | 99 => ⟨S7168x288x1, .f32⟩
  | 100 => ⟨S_, .i32⟩
  | 101 => ⟨S7168x288x16, .i32⟩
  | 102 => ⟨S7168x288x16, .i32⟩
  | 103 => ⟨S7168x288x16, .f32⟩
  | 104 => ⟨S7168x288x16, .f32⟩
  | 105 => ⟨S7168x288x16, .f32⟩
  | 106 => ⟨S7168x288x16, .f32⟩
  | 107 => ⟨S7168x288x16, .f32⟩
  | 108 => ⟨S7168x288x16, .bf16⟩
  | 109 => ⟨S7168x4608, .bf16⟩
  | 110 => ⟨S_, .i32⟩
  | 111 => ⟨S7168x288x16, .i32⟩
  | 112 => ⟨S7168x288x16, .i32⟩
  | 113 => ⟨S7168x288x16, .f32⟩
  | 114 => ⟨S7168x288x16, .f32⟩
  | 115 => ⟨S7168x288x16, .f32⟩
  | 116 => ⟨S7168x288x16, .f32⟩
  | 117 => ⟨S7168x288x16, .f32⟩
  | 118 => ⟨S7168x288x16, .bf16⟩
  | 119 => ⟨S7168x4608, .bf16⟩
  | 120 => ⟨S32x288x2x16, .bf16⟩
  | 121 => ⟨S32x288x1x16, .bf16⟩
  | 122 => ⟨S32x288x16, .bf16⟩
  | 123 => ⟨S32x4608, .bf16⟩
  | 124 => ⟨S32x288x1x16, .bf16⟩
  | 125 => ⟨S32x288x16, .bf16⟩
  | 126 => ⟨S32x4608, .bf16⟩
  | 127 => ⟨S32x7168, .f32⟩
  | _ => ⟨S32x1x7168, .bf16⟩

abbrev hbmTy0_1 (i : Nat) : BufTy := match i % 128 with
  | 0 => ⟨S32x7168, .f32⟩
  | 1 => ⟨S32x7168, .f32⟩
  | 2 => ⟨S32x7168, .bf16⟩
  | 3 => ⟨S32x1x7168, .bf16⟩
  | _ => ⟨S32x1x7168, .bf16⟩

abbrev hbmTy (i : Nat) : BufTy := match i / 128 with
  | 0 => hbmTy0_0 i
  | 1 => hbmTy0_1 i
  | _ => ⟨S32x1x7168, .bf16⟩

abbrev bufTy : (tb : Table) → Fin (tcTables nBuf tb) → BufTy
  | .hbm, ⟨i, _⟩ => hbmTy i
  | .local _ .vmem, ⟨0, _⟩ => ⟨S9216x224, .i16⟩
  | .local _ .vmem, ⟨1, _⟩ => ⟨S9216x224, .i16⟩
  | .local _ .vmem, ⟨2, _⟩ => ⟨S9216x224, .i16⟩
  | .local _ .vmem, ⟨3, _⟩ => ⟨S9216x224, .i16⟩
  | .local _ .vmem, ⟨4, _⟩ => ⟨S7168x288, .i16⟩
  | .local _ .vmem, ⟨5, _⟩ => ⟨S7168x288, .i16⟩
  | .local _ .vmem, ⟨6, _⟩ => ⟨S9216x224, .f32⟩
  | .local _ .vmem, ⟨7, _⟩ => ⟨S9216x224, .f32⟩
  | .local _ .vmem, ⟨8, _⟩ => ⟨S9216x224, .f32⟩
  | .local _ .vmem, ⟨9, _⟩ => ⟨S9216x224, .f32⟩
  | .local _ .vmem, ⟨10, _⟩ => ⟨S7168x288, .f32⟩
  | .local _ .vmem, ⟨11, _⟩ => ⟨S7168x288, .f32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_3 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_4 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S9216x224 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x224 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x224 .i16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x224 .i16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x288 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x288 .i16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9216x224 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x224 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x288 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168x288 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Chain.lean ====
/-
  What one grid point of each launch leaves in its result block, written as a chain of equal steps.

  Both launches of the kernel run through the packed bytes of a weight block in pieces of 128 lanes. `step` is the work
  on one piece: spread the group scales and minima over the lanes, decode the low and the high halves of the bytes to
  weights, and add the two products with the activations to the accumulator. `chain` repeats it. (Proof/Blocks.lean
  says that the generated contents of the result blocks are these chains.)
-/
module

public import proofs.«01_k».proof.Proof.Gen.KernelIdeal
public import Idealize.ShloMosaic.Lib.Pointwise

@[expose] public section

noncomputable section

namespace Cert.KernelIdeal.Chain

open Cert.KernelIdeal Cert.KernelIdeal.Gen Idealize.ShloMosaic

variable {F : FTy → Type} [FloatOps F]

/-- The kernel's decoding of float16 bit patterns: the magnitude bits moved to the place of a float32 (an exponent field
    of zero: the magnitude times `2 ^ -24`), times `-1` where the sign bit is set. -/
def decode {s : Shape} (b : Vec F s .i16) : FVec F s .f32 :=
  have v1 : IVec s 32 := extsi 32 b natLt_16_32
  have v5 : IVec s 32 := shli (andi v1 (broadcast s 32768#32)) (broadcast s 16#32)
  have v7 : IVec s 32 := andi v1 (broadcast s 32767#32)
  have v12 : FVec F s .f32 := bitcastToFloat .f32 (addi (shli v7 (broadcast s 13#32)) (broadcast s 939524096#32))
  have v15 : FVec F s .f32 := mulf (sitofp .f32 v7) (broadcast s (Scalar.ofBits .f32 0x33800000#32))
  have v18 : FVec F s .f32 := select (cmpi .sge v7 (broadcast s 1024#32)) v12 v15
  select (cmpi .ne v5 (broadcast s 0#32)) (mulf v18 (broadcast s (Scalar.ofBits .f32 0xBF800000#32))) v18

/-- The lane at which the scale of lane `l` stands in its tile: `l / 16 + off`, as the kernel computes it (a floor
    division, and a negative index counted from the end). -/
def laneIdx (off : BitVec 32) : IVec S256x128 32 :=
  have v52 : IVec S256x128 32 := iota .tc S256x128 32 [1] iota_S256x128_d1_w32
  have v53 : IVec S256x128 32 := broadcast S256x128 16#32
  have v54 : IVec S256x128 32 := divsi v52 v53
  have v55 : IVec S256x128 32 := broadcast S256x128 0#32
  have v61 : IVec S256x128 32 := subi (extui 32 (cmpi .sgt v52 v55) natLt_1_32) (extui 32 (cmpi .slt v52 v55) natLt_1_32)
  have v66 : BitVec 32 := Scalar.subi (Scalar.extui (Scalar.cmpi .sgt 16#32 0#32)) (Scalar.extui (Scalar.cmpi .slt 16#32 0#32))
  have v68 : IVec S256x128 1 := cmpi .ne v61 (broadcast S256x128 v66)
  have v72 : IVec S256x128 1 := cmpi .ne (remsi v52 v53) v55
  have v76 : IVec S256x128 32 := select (andi v68 v72) (subi v54 (broadcast S256x128 1#32)) v54
  have v78 : IVec S256x128 32 := addi v76 (broadcast S256x128 off)
  select (cmpi .slt v78 v55) (addi v78 (broadcast S256x128 128#32)) v78

/-- The scales of one tile spread over the 128 lanes of a piece, 16 lanes to a group. -/
def spread (tile : FVec F S256x128 .f32) (off : BitVec 32) : FVec F S256x128 .f32 :=
  dynamicGather 1 tile (shapeCast S256x128 (shapeCast S256x128x1 (laneIdx off) shapeCasts_S256x128_S256x128x1)
    shapeCasts_S256x128x1_S256x128)

/-- The tile of 128 groups that piece `n` reads of the 224 groups of the first launch (the second tile is filled up with zeros). -/
def tile224 (s : FVec F S256x224 .f32) (n : Nat) : FVec F S256x128 .f32 :=
  bif Nat.blt n 16 then extractStridedSlice S256x128 ![0, 0] s slices_S256x224_o0_0_S256x128
  else concatenate S256x128 1 [⟨S256x96, extractStridedSlice S256x96 ![0, 128] s slices_S256x224_o0_128_S256x96⟩,
    ⟨S256x32, broadcast S256x32 (Scalar.sitofp .f32 0#32)⟩] concatenates_S256x96_S256x32_S256x128_d1

/-- The tile of 128 groups that piece `n` reads of the 288 groups of the second launch (the third tile is filled up with zeros). -/
def tile288 (s : FVec F S256x288 .f32) (n : Nat) : FVec F S256x128 .f32 :=
  bif Nat.blt n 16 then extractStridedSlice S256x128 ![0, 0] s slices_S256x288_o0_0_S256x128
  else bif Nat.blt n 32 then extractStridedSlice S256x128 ![0, 128] s slices_S256x288_o0_128_S256x128
  else concatenate S256x128 1 [⟨S256x32, extractStridedSlice S256x32 ![0, 256] s slices_S256x288_o0_256_S256x32⟩,
    ⟨S256x96, broadcast S256x96 (Scalar.sitofp .f32 0#32)⟩] concatenates_S256x32_S256x96_S256x128_d1

/-- The weights of one piece: code times scale plus minimum. -/
def weight (code : IVec S256x128 32) (sj mj : FVec F S256x128 .f32) : FVec F S256x128 .bf16 :=
  truncf .bf16 (addf (mulf (sitofp .f32 code) sj) mj) bitsLt_bf16_f32

/-- The product of 32 rows of activations with the weights of one piece. -/
def prod (a : Vec F S32x128 .bf16) (w : FVec F S256x128 .bf16) : FVec F S32x256 .f32 :=
  matmul dot_S32x128_S256x128_S32x256_1_1_0_0_n_n none (shapeCast S32x128 a shapeCasts_S32x128_S32x128) w
    (constant S32x256 .f32 0x00000000#32)

/-- One piece: the accumulator plus the product over the low halves plus the product over the high halves. -/
def step (acc : FVec F S32x256 .f32) (sj mj : FVec F S256x128 .f32) (q : Vec F S256x128 .i8) (lo hi : Vec F S32x128 .bf16) :
    FVec F S32x256 .f32 :=
  have c : IVec S256x128 32 := extui 32 q natLt_8_32
  addf (addf acc (prod lo (weight (andi c (broadcast S256x128 15#32)) sj mj)))
    (prod hi (weight (shrsi c (broadcast S256x128 4#32)) sj mj))

/-- The first `n` pieces, from zero. -/
def chain {N : Nat} (sj mj : Nat → FVec F S256x128 .f32) (q : Fin N → Vec F S256x128 .i8) (lo hi : Fin N → Vec F S32x128 .bf16) :
    (n : Nat) → n ≤ N → FVec F S32x256 .f32
  | 0, _ => broadcast S32x256 (Scalar.ofBits .f32 0x00000000#32)
  | n + 1, h => step (chain sj mj q lo hi n (Nat.le_of_succ_le h)) (spread (sj n) (BitVec.ofNat 32 (8 * (n % 16))))
      (spread (mj n) (BitVec.ofNat 32 (8 * (n % 16)))) (q ⟨n, h⟩) (lo ⟨n, h⟩) (hi ⟨n, h⟩)

/-- Piece `n` of 28 of a block with 3584 columns. -/
abbrev piece28 {R : Nat} (n : Fin 28) : Rect (⟨2, ![R, 3584]⟩ : Shape) :=
  Rect.unit (s := (⟨2, ![R, 3584]⟩ : Shape)) ![0, 128 * n.val] ![R, 128] (by
    intro a; have := n.isLt; fin_cases a <;> simp <;> omega)

/-- Piece `n` of 36 of a block with 4608 columns. -/
abbrev piece36 {R : Nat} (n : Fin 36) : Rect (⟨2, ![R, 4608]⟩ : Shape) :=
  Rect.unit (s := (⟨2, ![R, 4608]⟩ : Shape)) ![0, 128 * n.val] ![R, 128] (by
    intro a; have := n.isLt; fin_cases a <;> simp <;> omega)

/-- The 28 pieces of one linear layer of the first launch. -/
def linear28 (lo hi : Vec F S32x3584 .bf16) (q : Vec F S256x3584 .i8) (s m : Vec F S256x224 .i16) : FVec F S32x256 .f32 :=
  chain (N := 28) (tile224 (decode s)) (tile224 (decode m)) (fun n => View.ld q (piece28 n))
    (fun n => View.ld lo (piece28 n)) (fun n => View.ld hi (piece28 n)) 28 (Nat.le_refl 28)

/-- The 36 pieces of the linear layer of the second launch. -/
def linear36 (lo hi : Vec F S32x4608 .bf16) (q : Vec F S256x4608 .i8) (s m : Vec F S256x288 .i16) : FVec F S32x256 .f32 :=
  chain (N := 36) (tile288 (decode s)) (tile288 (decode m)) (fun n => View.ld q (piece36 n))
    (fun n => View.ld lo (piece36 n)) (fun n => View.ld hi (piece36 n)) 36 (Nat.le_refl 36)

end Cert.KernelIdeal.Chain
-- ==== Proof.Blocks.lean ====
/-
  The generated contents of the two launches' result blocks are the chains of Proof/Chain.lean, by unfolding.
-/
module

public import proofs.«01_k».proof.Proof.Gen.KernelIdeal.Frame
public import proofs.«01_k».proof.Proof.Chain

@[expose] public section

noncomputable section

namespace Cert.KernelIdeal.Chain

open Cert.KernelIdeal Cert.KernelIdeal.Gen Idealize.ShloMosaic

variable {F : FTy → Type} [FloatOps F]

/-- No pieces: zero. -/
theorem chain_zero {N : Nat} (sj mj : Nat → FVec F S256x128 .f32) (q : Fin N → Vec F S256x128 .i8)
    (lo hi : Fin N → Vec F S32x128 .bf16) (h : 0 ≤ N) :
    chain sj mj q lo hi 0 h = broadcast S32x256 (Scalar.ofBits .f32 0x00000000#32) := rfl

/-- One more piece. -/
theorem chain_succ {N : Nat} (sj mj : Nat → FVec F S256x128 .f32) (q : Fin N → Vec F S256x128 .i8)
    (lo hi : Fin N → Vec F S32x128 .bf16) (n : Nat) (h : n + 1 ≤ N) :
    chain sj mj q lo hi (n + 1) h = step (chain sj mj q lo hi n (Nat.le_of_succ_le h))
      (spread (sj n) (BitVec.ofNat 32 (8 * (n % 16)))) (spread (mj n) (BitVec.ofNat 32 (8 * (n % 16))))
      (q ⟨n, h⟩) (lo ⟨n, h⟩) (hi ⟨n, h⟩) := rfl

/-- A number at least `m` is not below `m`. -/
theorem blt_false {n m : Nat} (h : m ≤ n) : Nat.blt n m = false :=
  Bool.eq_false_iff.mpr fun e => by have := Nat.le_of_ble_eq_true e; omega

/-- The first tile of 224 groups. -/
theorem tile224_first (s : FVec F S256x224 .f32) {n : Nat} (h : n < 16) :
    tile224 s n = extractStridedSlice S256x128 ![0, 0] s slices_S256x224_o0_0_S256x128 := by
  have h1 : Nat.blt n 16 = true := by simpa using h
  rw [tile224, h1]; rfl

/-- The second tile of 224 groups. -/
theorem tile224_second (s : FVec F S256x224 .f32) {n : Nat} (h : 16 ≤ n) :
    tile224 s n = concatenate S256x128 1
      [⟨S256x96, extractStridedSlice S256x96 ![0, 128] s slices_S256x224_o0_128_S256x96⟩,
        ⟨S256x32, broadcast S256x32 (Scalar.sitofp .f32 0#32)⟩] concatenates_S256x96_S256x32_S256x128_d1 := by
  have h1 : Nat.blt n 16 = false := blt_false h
  rw [tile224, h1]; rfl

/-- The first tile of 288 groups. -/
theorem tile288_first (s : FVec F S256x288 .f32) {n : Nat} (h : n < 16) :
    tile288 s n = extractStridedSlice S256x128 ![0, 0] s slices_S256x288_o0_0_S256x128 := by
  have h1 : Nat.blt n 16 = true := by simpa using h
  rw [tile288, h1]; rfl

/-- The second tile of 288 groups. -/
theorem tile288_second (s : FVec F S256x288 .f32) {n : Nat} (h : 16 ≤ n) (h' : n < 32) :
    tile288 s n = extractStridedSlice S256x128 ![0, 128] s slices_S256x288_o0_128_S256x128 := by
  have h1 : Nat.blt n 16 = false := blt_false h
  have h2 : Nat.blt n 32 = true := by simpa using h'
  rw [tile288, h1, h2]; rfl

/-- The third tile of 288 groups. -/
theorem tile288_third (s : FVec F S256x288 .f32) {n : Nat} (h : 32 ≤ n) :
    tile288 s n = concatenate S256x128 1
      [⟨S256x32, extractStridedSlice S256x32 ![0, 256] s slices_S256x288_o0_256_S256x32⟩,
        ⟨S256x96, broadcast S256x96 (Scalar.sitofp .f32 0#32)⟩] concatenates_S256x32_S256x96_S256x128_d1 := by
  have h1 : Nat.blt n 16 = false := blt_false (by omega)
  have h2 : Nat.blt n 32 = false := blt_false h
  rw [tile288, h1, h2]; rfl

/-- The decoded scales of the second launch. -/
theorem scales1 (x0 x1 : Vec F S32x4608 .bf16) (x2 : Vec F S256x4608 .i8) (x3 x4 : Vec F S256x288 .i16) :
    k1_pay327 x0 x1 x2 x3 x4 = decode (View.ld x3 r1_0) := rfl

/-- The decoded minima of the second launch. -/
theorem minima1 (x0 x1 : Vec F S32x4608 .bf16) (x2 : Vec F S256x4608 .i8) (x3 x4 : Vec F S256x288 .i16) :
    k1_pay328 x0 x1 x2 x3 x4 = decode (View.ld x4 r1_0) := rfl

set_option maxRecDepth 65536 in
set_option maxHeartbeats 4000000 in
/-- The second launch's result block is its chain of 36 pieces, rounded. -/
theorem out1_eq (x0 x1 : Vec F S32x4608 .bf16) (x2 : Vec F S256x4608 .i8) (x3 x4 : Vec F S256x288 .i16) :
    out1_5 x0 x1 x2 x3 x4 = View.canon [⟨r1_73, truncf .bf16
      (linear36 x0 x1 x2 (View.ld x3 r1_0) (View.ld x4 r1_0)) bitsLt_bf16_f32⟩] := by
  rw [linear36, ← scales1 x0 x1 x2 x3 x4, ← minima1 x0 x1 x2 x3 x4]
  simp (discharger := decide) only [chain_zero, chain_succ, tile288_first, tile288_second, tile288_third]
  rfl

/-- The decoded scales of the gate layer. -/
theorem scalesGate (x0 x1 : Vec F S32x3584 .bf16) (x2 x5 : Vec F S256x3584 .i8) (x3 x4 x6 x7 : Vec F S256x224 .i16) :
    k0_pay505 x0 x1 x2 x3 x4 x5 x6 x7 = decode (View.ld x3 r0_0) := rfl

/-- The decoded minima of the gate layer. -/
theorem minimaGate (x0 x1 : Vec F S32x3584 .bf16) (x2 x5 : Vec F S256x3584 .i8) (x3 x4 x6 x7 : Vec F S256x224 .i16) :
    k0_pay506 x0 x1 x2 x3 x4 x5 x6 x7 = decode (View.ld x4 r0_0) := rfl

/-- The decoded scales of the up layer. -/
theorem scalesUp (x0 x1 : Vec F S32x3584 .bf16) (x2 x5 : Vec F S256x3584 .i8) (x3 x4 x6 x7 : Vec F S256x224 .i16) :
    k0_pay560 x0 x1 x2 x3 x4 x5 x6 x7 = decode (View.ld x6 r0_0) := rfl

/-- The decoded minima of the up layer. -/
theorem minimaUp (x0 x1 : Vec F S32x3584 .bf16) (x2 x5 : Vec F S256x3584 .i8) (x3 x4 x6 x7 : Vec F S256x224 .i16) :
    k0_pay561 x0 x1 x2 x3 x4 x5 x6 x7 = decode (View.ld x7 r0_0) := rfl

set_option maxRecDepth 65536 in
set_option maxHeartbeats 4000000 in
/-- The first launch's result block is the gated product of its two chains of 28 pieces, rounded. -/
theorem out0_eq (x0 x1 : Vec F S32x3584 .bf16) (x2 x5 : Vec F S256x3584 .i8) (x3 x4 x6 x7 : Vec F S256x224 .i16) :
    out0_8 x0 x1 x2 x3 x4 x5 x6 x7 = View.canon [⟨r0_57, truncf .bf16
      (mulf (mulf (linear28 x0 x1 x2 (View.ld x3 r0_0) (View.ld x4 r0_0))
          (logistic (linear28 x0 x1 x2 (View.ld x3 r0_0) (View.ld x4 r0_0))))
        (linear28 x0 x1 x5 (View.ld x6 r0_0) (View.ld x7 r0_0))) bitsLt_bf16_f32⟩] := by
  rw [linear28, linear28, ← scalesGate x0 x1 x2 x5 x3 x4 x6 x7, ← minimaGate x0 x1 x2 x5 x3 x4 x6 x7,
    ← scalesUp x0 x1 x2 x5 x3 x4 x6 x7, ← minimaUp x0 x1 x2 x5 x3 x4 x6 x7]
  simp (discharger := decide) only [chain_zero, chain_succ, tile224_first, tile224_second]
  rfl

end Cert.KernelIdeal.Chain
-- ==== Proof.Windows.lean ====
/-
  Where the blocks of the two launches lie in their arrays: the activations are read whole at every grid point, grid point
  `t` reads rows `256 t … 256 t + 255` of every weight array, and writes columns `256 t … 256 t + 255` of the result.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Chain

open Cert.KernelIdeal Cert.KernelIdeal.Gen Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

/-- The block indices of the first launch's windows at grid point `t`. -/
theorem index0 : ∀ t : Fin grid0.N,
    (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = t.val) := by
  decide +kernel

/-- The block indices of the second launch's windows at grid point `t`. -/
theorem index1 : ∀ t : Fin grid1.N,
    (win1_0.index t 0 = 0 ∧ win1_0.index t 1 = 0) ∧ (win1_1.index t 0 = 0 ∧ win1_1.index t 1 = 0)
    ∧ (win1_2.index t 0 = t.val ∧ win1_2.index t 1 = 0) ∧ (win1_3.index t 0 = t.val ∧ win1_3.index t 1 = 0)
    ∧ (win1_4.index t 0 = t.val ∧ win1_4.index t 1 = 0) ∧ (win1_5.index t 0 = 0 ∧ win1_5.index t 1 = t.val) := by
  decide +kernel

/-- Row `r` of block `t` of an array of 36 blocks of 256 rows. -/
abbrev row0 (t : Fin cfg0.N) (r : Fin 256) : Fin 9216 := ⟨t.val * 256 + r.val, by have h := t.isLt; have e : cfg0.N = 36 := N_0; omega⟩

/-- Row `r` of block `t` of an array of 28 blocks of 256 rows. -/
abbrev row1 (t : Fin cfg1.N) (r : Fin 256) : Fin 7168 := ⟨t.val * 256 + r.val, by have h := t.isLt; have e : cfg1.N = 28 := N_1; omega⟩

/-- Every grid point of the first launch reads the activations of the low halves whole. -/
theorem iblk0_0 (c : Dev nD) (t : Fin cfg0.N) : iblk0 V c 0 t = V c main_v4 := by
  funext j
  refine congrArg (V c main_v4) (Shape.idx_ext₂ ?_ ?_)
  · exact win0_0.rect_emb_val_of_index_zero t 0 (index0 t).1.1 j
  · exact win0_0.rect_emb_val_of_index_zero t 1 (index0 t).1.2 j

/-- Every grid point of the first launch reads the activations of the high halves whole. -/
theorem iblk0_1 (c : Dev nD) (t : Fin cfg0.N) : iblk0 V c 1 t = V c main_v7 := by
  funext j
  refine congrArg (V c main_v7) (Shape.idx_ext₂ ?_ ?_)
  · exact win0_1.rect_emb_val_of_index_zero t 0 (index0 t).2.1.1 j
  · exact win0_1.rect_emb_val_of_index_zero t 1 (index0 t).2.1.2 j

/-- Row `r` of the block of the gate codes at grid point `t` is row `256 t + r` of the array. -/
theorem iblk0_2 (c : Dev nD) (t : Fin cfg0.N) (r : Fin 256) (k : Fin 3584) :
    (iblk0 V c 2 t : Vec F S256x3584 .i8) (ix2 r k) = (V c main_arg1 : Vec F S9216x3584 .i8) (ix2 (row0 t r) k) := by
  refine congrArg (V c main_arg1) (Shape.idx_ext₂ ?_ ?_)
  · exact (win0_2.rect_emb_val t (ix2 r k) 0).trans (by rw [(index0 t).2.2.1.1]; rfl)
  · exact win0_2.rect_emb_val_of_index_zero t 1 (index0 t).2.2.1.2 (ix2 r k)

/-- Row `r` of the block of the gate scales at grid point `t` is row `256 t + r` of the array. -/
theorem iblk0_3 (c : Dev nD) (t : Fin cfg0.N) (r : Fin 256) (k : Fin 224) :
    (iblk0 V c 3 t : Vec F S256x224 .i16) (ix2 r k) = (V c main_arg2 : Vec F S9216x224 .i16) (ix2 (row0 t r) k) := by
  refine congrArg (V c main_arg2) (Shape.idx_ext₂ ?_ ?_)
  · exact (win0_3.rect_emb_val t (ix2 r k) 0).trans (by rw [(index0 t).2.2.2.1.1]; rfl)
  · exact win0_3.rect_emb_val_of_index_zero t 1 (index0 t).2.2.2.1.2 (ix2 r k)

/-- Row `r` of the block of the gate minima at grid point `t` is row `256 t + r` of the array. -/
theorem iblk0_4 (c : Dev nD) (t : Fin cfg0.N) (r : Fin 256) (k : Fin 224) :
    (iblk0 V c 4 t : Vec F S256x224 .i16) (ix2 r k) = (V c main_arg3 : Vec F S9216x224 .i16) (ix2 (row0 t r) k) := by
  refine congrArg (V c main_arg3) (Shape.idx_ext₂ ?_ ?_)
  · exact (win0_4.rect_emb_val t (ix2 r k) 0).trans (by rw [(index0 t).2.2.2.2.1.1]; rfl)
  · exact win0_4.rect_emb_val_of_index_zero t 1 (index0 t).2.2.2.2.1.2 (ix2 r k)

/-- Row `r` of the block of the up codes at grid point `t` is row `256 t + r` of the array. -/
theorem iblk0_5 (c : Dev nD) (t : Fin cfg0.N) (r : Fin 256) (k : Fin 3584) :
    (iblk0 V c 5 t : Vec F S256x3584 .i8) (ix2 r k) = (V c main_arg4 : Vec F S9216x3584 .i8) (ix2 (row0 t r) k) := by
  refine congrArg (V c main_arg4) (Shape.idx_ext₂ ?_ ?_)
  · exact (win0_5.rect_emb_val t (ix2 r k) 0).trans (by rw [(index0 t).2.2.2.2.2.1.1]; rfl)
  · exact win0_5.rect_emb_val_of_index_zero t 1 (index0 t).2.2.2.2.2.1.2 (ix2 r k)

/-- Row `r` of the block of the up scales at grid point `t` is row `256 t + r` of the array. -/
theorem iblk0_6 (c : Dev nD) (t : Fin cfg0.N) (r : Fin 256) (k : Fin 224) :
    (iblk0 V c 6 t : Vec F S256x224 .i16) (ix2 r k) = (V c main_arg5 : Vec F S9216x224 .i16) (ix2 (row0 t r) k) := by
  refine congrArg (V c main_arg5) (Shape.idx_ext₂ ?_ ?_)
  · exact (win0_6.rect_emb_val t (ix2 r k) 0).trans (by rw [(index0 t).2.2.2.2.2.2.1.1]; rfl)
  · exact win0_6.rect_emb_val_of_index_zero t 1 (index0 t).2.2.2.2.2.2.1.2 (ix2 r k)

/-- Row `r` of the block of the up minima at grid point `t` is row `256 t + r` of the array. -/
theorem iblk0_7 (c : Dev nD) (t : Fin cfg0.N) (r : Fin 256) (k : Fin 224) :
    (iblk0 V c 7 t : Vec F S256x224 .i16) (ix2 r k) = (V c main_arg6 : Vec F S9216x224 .i16) (ix2 (row0 t r) k) := by
  refine congrArg (V c main_arg6) (Shape.idx_ext₂ ?_ ?_)
  · exact (win0_7.rect_emb_val t (ix2 r k) 0).trans (by rw [(index0 t).2.2.2.2.2.2.2.1.1]; rfl)
  · exact win0_7.rect_emb_val_of_index_zero t 1 (index0 t).2.2.2.2.2.2.2.1.2 (ix2 r k)

/-- Every grid point of the second launch reads the activations of the low halves whole. -/
theorem iblk1_0 (c : Dev nD) (t : Fin cfg1.N) : iblk1 V c 0 t = V c main_v12 := by
  funext j
  refine congrArg (V c main_v12) (Shape.idx_ext₂ ?_ ?_)
  · exact win1_0.rect_emb_val_of_index_zero t 0 (index1 t).1.1 j
  · exact win1_0.rect_emb_val_of_index_zero t 1 (index1 t).1.2 j

/-- Every grid point of the second launch reads the activations of the high halves whole. -/
theorem iblk1_1 (c : Dev nD) (t : Fin cfg1.N) : iblk1 V c 1 t = V c main_v15 := by
  funext j
  refine congrArg (V c main_v15) (Shape.idx_ext₂ ?_ ?_)
  · exact win1_1.rect_emb_val_of_index_zero t 0 (index1 t).2.1.1 j
  · exact win1_1.rect_emb_val_of_index_zero t 1 (index1 t).2.1.2 j

/-- Row `r` of the block of the down codes at grid point `t` is row `256 t + r` of the array. -/
theorem iblk1_2 (c : Dev nD) (t : Fin cfg1.N) (r : Fin 256) (k : Fin 4608) :
    (iblk1 V c 2 t : Vec F S256x4608 .i8) (ix2 r k) = (V c main_arg7 : Vec F S7168x4608 .i8) (ix2 (row1 t r) k) := by
  refine congrArg (V c main_arg7) (Shape.idx_ext₂ ?_ ?_)
  · exact (win1_2.rect_emb_val t (ix2 r k) 0).trans (by rw [(index1 t).2.2.1.1]; rfl)
  · exact win1_2.rect_emb_val_of_index_zero t 1 (index1 t).2.2.1.2 (ix2 r k)

/-- Row `r` of the block of the down scales at grid point `t` is row `256 t + r` of the array. -/
theorem iblk1_3 (c : Dev nD) (t : Fin cfg1.N) (r : Fin 256) (k : Fin 288) :
    (iblk1 V c 3 t : Vec F S256x288 .i16) (ix2 r k) = (V c main_arg8 : Vec F S7168x288 .i16) (ix2 (row1 t r) k) := by
  refine congrArg (V c main_arg8) (Shape.idx_ext₂ ?_ ?_)
  · exact (win1_3.rect_emb_val t (ix2 r k) 0).trans (by rw [(index1 t).2.2.2.1.1]; rfl)
  · exact win1_3.rect_emb_val_of_index_zero t 1 (index1 t).2.2.2.1.2 (ix2 r k)

/-- Row `r` of the block of the down minima at grid point `t` is row `256 t + r` of the array. -/
theorem iblk1_4 (c : Dev nD) (t : Fin cfg1.N) (r : Fin 256) (k : Fin 288) :
    (iblk1 V c 4 t : Vec F S256x288 .i16) (ix2 r k) = (V c main_arg9 : Vec F S7168x288 .i16) (ix2 (row1 t r) k) := by
  refine congrArg (V c main_arg9) (Shape.idx_ext₂ ?_ ?_)
  · exact (win1_4.rect_emb_val t (ix2 r k) 0).trans (by rw [(index1 t).2.2.2.2.1.1]; rfl)
  · exact win1_4.rect_emb_val_of_index_zero t 1 (index1 t).2.2.2.2.1.2 (ix2 r k)

/-- Block `t` of a 9216-column array `G`, read at an index: column `256 t + r`. -/
theorem read_out0 (G : Vec F S32x9216 .bf16) (t : Fin cfg0.N) (i : Fin 32) (r : Fin 256) :
    ((win0_8.blk t).view.read (Elt F) G : Vec F S32x256 .bf16) (ix2 i r) = G (ix2 i (row0 t r)) := by
  refine congrArg G (Shape.idx_ext₂ ?_ ?_)
  · exact win0_8.rect_emb_val_of_index_zero t 0 (index0 t).2.2.2.2.2.2.2.2.1 (ix2 i r)
  · exact (win0_8.rect_emb_val t (ix2 i r) 1).trans (by rw [(index0 t).2.2.2.2.2.2.2.2.2]; rfl)

/-- The result blocks of launch 0 fill the result array. -/
theorem cover0 (i : S32x9216.Idx) :
    ∃ t : Fin cfg0.N, (cfg0.win 8).flush t = true ∧ i ∈ ((cfg0.win 8).blk t).view.set := by
  have h0 : (i 0 : Nat) < 32 := (i 0).isLt
  have h1 : (i 1 : Nat) < 9216 := (i 1).isLt
  have hN : cfg0.N = 36 := N_0
  obtain ⟨t, ht⟩ : ∃ t : Fin cfg0.N, t.val = (i 1 : Nat) / 256 := ⟨⟨(i 1 : Nat) / 256, by omega⟩, rfl⟩
  refine ⟨t, flush0_8 t, ?_⟩
  show i ∈ ((View.whole main_v8).slice (win0_8.rect t)).set
  rw [View.set_slice_whole, Rect.mem_set_unit]
  intro a
  match a with
  | ⟨0, _⟩ =>
    show win0_8.index t 0 * 32 ≤ (i 0 : Nat) ∧ (i 0 : Nat) < win0_8.index t 0 * 32 + 32
    rw [(index0 t).2.2.2.2.2.2.2.2.1]; omega
  | ⟨1, _⟩ =>
    show win0_8.index t 1 * 256 ≤ (i 1 : Nat) ∧ (i 1 : Nat) < win0_8.index t 1 * 256 + 256
    rw [(index0 t).2.2.2.2.2.2.2.2.2]; omega

/-- Block `t` of a 7168-column array `G`, read at an index: column `256 t + r`. -/
theorem read_out1 (G : Vec F S32x7168 .bf16) (t : Fin cfg1.N) (i : Fin 32) (r : Fin 256) :
    ((win1_5.blk t).view.read (Elt F) G : Vec F S32x256 .bf16) (ix2 i r) = G (ix2 i (row1 t r)) := by
  refine congrArg G (Shape.idx_ext₂ ?_ ?_)
  · exact win1_5.rect_emb_val_of_index_zero t 0 (index1 t).2.2.2.2.2.1 (ix2 i r)
  · exact (win1_5.rect_emb_val t (ix2 i r) 1).trans (by rw [(index1 t).2.2.2.2.2.2]; rfl)

/-- The result blocks of launch 1 fill the result array. -/
theorem cover1 (i : S32x7168.Idx) :
    ∃ t : Fin cfg1.N, (cfg1.win 5).flush t = true ∧ i ∈ ((cfg1.win 5).blk t).view.set := by
  have h0 : (i 0 : Nat) < 32 := (i 0).isLt
  have h1 : (i 1 : Nat) < 7168 := (i 1).isLt
  have hN : cfg1.N = 28 := N_1
  obtain ⟨t, ht⟩ : ∃ t : Fin cfg1.N, t.val = (i 1 : Nat) / 256 := ⟨⟨(i 1 : Nat) / 256, by omega⟩, rfl⟩
  refine ⟨t, flush1_5 t, ?_⟩
  show i ∈ ((View.whole main_v16).slice (win1_5.rect t)).set
  rw [View.set_slice_whole, Rect.mem_set_unit]
  intro a
  match a with
  | ⟨0, _⟩ =>
    show win1_5.index t 0 * 32 ≤ (i 0 : Nat) ∧ (i 0 : Nat) < win1_5.index t 0 * 32 + 32
    rw [(index1 t).2.2.2.2.2.1]; omega
  | ⟨1, _⟩ =>
    show win1_5.index t 1 * 256 ≤ (i 1 : Nat) ∧ (i 1 : Nat) < win1_5.index t 1 * 256 + 256
    rw [(index1 t).2.2.2.2.2.2]; omega

end Cert.KernelIdeal.Chain
-- ==== Proof.Values.lean ====
/-
  The chains of Proof/Chain.lean at one index, over the extended reals: one linear layer of the kernel is the sum over the
  low halves of the bytes plus the sum over the high halves.
-/
module

public import proofs.«01_k».proof.Proof.Chain

@[expose] public section

noncomputable section

namespace Cert.KernelIdeal.Chain

open Cert.KernelIdeal Cert.KernelIdeal.Gen Idealize.ShloMosaic

/-- The low four bits of a byte, as a number. -/
def lowCode (b : BitVec 8) : EReal := (((b.setWidth 32 &&& 15#32).toInt : ℝ) : EReal)

/-- The high four bits of a byte, as a number. -/
def highCode (b : BitVec 8) : EReal := ((((b.setWidth 32).sshiftRight 4).toInt : ℝ) : EReal)

/-- The kernel's value of one float16 bit pattern. -/
def decodeWord (b : BitVec 16) : EReal := decode (F := Ideal) (s := ⟨1, ![1]⟩) (fun _ => b) (ix1 0)

/-- `decode` works element by element. -/
theorem decode_apply {s : Shape} (b : Vec Ideal s .i16) (i : s.Idx) : decode b i = decodeWord (b i) := rfl

/-- The kernel's lane index is the group of the lane within its piece plus the piece's offset. -/
theorem laneIdx_toNat (c : Fin 16) (r : Fin 256) (l : Fin 128) :
    (laneIdx (BitVec.ofNat 32 (8 * c.val)) (ix2 r l)).toNat = l.val / 16 + 8 * c.val := by
  pointwise [laneIdx]
  revert c l
  decide +kernel

variable {F : FTy → Type} [FloatOps F]

/-- Lane `l` of piece `n` of the spread scales, first launch: the scale of group `8 n + l / 16`. -/
theorem spread224 (s : FVec F S256x224 .f32) (n : Fin 28) (r : Fin 256) (l : Fin 128) :
    spread (tile224 s n.val) (BitVec.ofNat 32 (8 * (n.val % 16))) (ix2 r l)
      = s (ix2 r ⟨8 * n.val + l.val / 16, by omega⟩) := by
  have e := laneIdx_toNat ⟨n.val % 16, Nat.mod_lt _ (by omega)⟩ r l
  have hn := n.isLt
  have hl := l.isLt
  pointwise [spread]
  simp only [e]
  unfold tile224
  cases h : Nat.blt n.val 16
  · have h' : ¬ n.val < 16 := fun hl => by rw [← Nat.blt_eq, h] at hl; cases hl
    simp only [cond]
    pointwise
    rw [dif_pos (by omega)]
    congr 2
    apply Fin.ext
    simp only []
    omega
  · have h' : n.val < 16 := by simpa [Nat.blt_eq] using h
    simp only [cond]
    pointwise
    congr 2
    apply Fin.ext
    simp only []
    omega

/-- Lane `l` of piece `n` of the spread scales, second launch: the scale of group `8 n + l / 16`. -/
theorem spread288 (s : FVec F S256x288 .f32) (n : Fin 36) (r : Fin 256) (l : Fin 128) :
    spread (tile288 s n.val) (BitVec.ofNat 32 (8 * (n.val % 16))) (ix2 r l)
      = s (ix2 r ⟨8 * n.val + l.val / 16, by omega⟩) := by
  have e := laneIdx_toNat ⟨n.val % 16, Nat.mod_lt _ (by omega)⟩ r l
  have hn := n.isLt
  have hl := l.isLt
  pointwise [spread]
  simp only [e]
  unfold tile288
  cases h : Nat.blt n.val 16
  · have h' : ¬ n.val < 16 := fun hl => by rw [← Nat.blt_eq, h] at hl; cases hl
    cases g : Nat.blt n.val 32
    · have g' : ¬ n.val < 32 := fun hl => by rw [← Nat.blt_eq, g] at hl; cases hl
      simp only [cond]
      pointwise
      rw [dif_pos (by omega)]
      congr 2
      apply Fin.ext
      simp only []
      omega
    · have g' : n.val < 32 := by simpa [Nat.blt_eq] using g
      simp only [cond]
      pointwise
      congr 2
      apply Fin.ext
      simp only []
      omega
  · have h' : n.val < 16 := by simpa [Nat.blt_eq] using h
    simp only [cond]
    pointwise
    congr 2
    apply Fin.ext
    simp only []
    omega

/-- One piece at an index. -/
theorem step_apply (acc : FVec Ideal S32x256 .f32) (sj mj : FVec Ideal S256x128 .f32) (q : Vec Ideal S256x128 .i8)
    (lo hi : Vec Ideal S32x128 .bf16) (i : Fin 32) (r : Fin 256) :
    step acc sj mj q lo hi (ix2 i r) = acc (ix2 i r)
      + (∑ k : Fin 128, lo (ix2 i k) * (lowCode (q (ix2 r k)) * sj (ix2 r k) + mj (ix2 r k)))
      + ∑ k : Fin 128, hi (ix2 i k) * (highCode (q (ix2 r k)) * sj (ix2 r k) + mj (ix2 r k)) := by
  pointwise [step, prod, weight, dot_S32x128_S256x128_S32x256_1_1_0_0_n_n]
  rfl

/-- The first `n` pieces at an index: where `f k` and `g k` are the products at column `k` with the low and the high code,
    the sum of `f` and the sum of `g` over the first `128 n` columns. -/
theorem chain_apply {N : Nat} (sj mj : Nat → FVec Ideal S256x128 .f32) (q : Fin N → Vec Ideal S256x128 .i8)
    (lo hi : Fin N → Vec Ideal S32x128 .bf16) (i : Fin 32) (r : Fin 256) (f g : Nat → EReal)
    (hf : ∀ (n : Fin N) (k : Fin 128), f (128 * n.val + k.val) = lo n (ix2 i k) * (lowCode (q n (ix2 r k))
      * spread (sj n.val) (BitVec.ofNat 32 (8 * (n.val % 16))) (ix2 r k)
      + spread (mj n.val) (BitVec.ofNat 32 (8 * (n.val % 16))) (ix2 r k)))
    (hg : ∀ (n : Fin N) (k : Fin 128), g (128 * n.val + k.val) = hi n (ix2 i k) * (highCode (q n (ix2 r k))
      * spread (sj n.val) (BitVec.ofNat 32 (8 * (n.val % 16))) (ix2 r k)
      + spread (mj n.val) (BitVec.ofNat 32 (8 * (n.val % 16))) (ix2 r k))) :
    ∀ (n : Nat) (h : n ≤ N), chain sj mj q lo hi n h (ix2 i r)
      = (∑ k ∈ Finset.range (128 * n), f k) + ∑ k ∈ Finset.range (128 * n), g k
  | 0, _ => by
    show Ideal.ofBits .f32 0x00000000#32 = _
    simp
  | n + 1, h => by
    show step _ _ _ _ _ _ (ix2 i r) = _
    rw [step_apply, chain_apply sj mj q lo hi i r f g hf hg n, Nat.mul_succ, Finset.sum_range_add, Finset.sum_range_add,
      Finset.sum_range (fun k => f (128 * n + k)), Finset.sum_range (fun k => g (128 * n + k))]
    rw [Finset.sum_congr rfl fun k _ => hf ⟨n, h⟩ k, Finset.sum_congr rfl fun k _ => hg ⟨n, h⟩ k]
    ac_rfl

/-- What a linear layer is at row `i` of the activations and row `r` of the weights: with the activations' low and high
    halves of every group apart, the sum over the low codes plus the sum over the high codes, a weight being its code
    times its group's scale plus its group's minimum. -/
def linear {R K G : Nat} (hK : K = G * 16) (lo hi : (⟨2, ![32, K]⟩ : Shape).Idx → EReal) (q : (⟨2, ![R, K]⟩ : Shape).Idx → BitVec 8)
    (s m : (⟨2, ![R, G]⟩ : Shape).Idx → EReal) (i : Fin 32) (r : Fin R) : EReal :=
  (∑ k : Fin K, lo (ix2 i k) * (lowCode (q (ix2 r k)) * s (ix2 r ⟨k.val / 16, by have := k.isLt; omega⟩)
      + m (ix2 r ⟨k.val / 16, by have := k.isLt; omega⟩)))
    + ∑ k : Fin K, hi (ix2 i k) * (highCode (q (ix2 r k)) * s (ix2 r ⟨k.val / 16, by have := k.isLt; omega⟩)
      + m (ix2 r ⟨k.val / 16, by have := k.isLt; omega⟩))

/-- A function of the columns below `K`, continued by zero. -/
def ext {K : Nat} (f : Fin K → EReal) (k : Nat) : EReal := if h : k < K then f ⟨k, h⟩ else 0

/-- Below `K` the continued function is the function itself. -/
theorem ext_of_lt {K : Nat} (f : Fin K → EReal) {k : Nat} (h : k < K) : ext f k = f ⟨k, h⟩ := dif_pos h

/-- The sum of the continued function over the numbers below `K` is the sum of the function. -/
theorem sum_ext {K : Nat} (f : Fin K → EReal) : ∑ k ∈ Finset.range K, ext f k = ∑ k, f k := by
  rw [Finset.sum_range]
  exact Finset.sum_congr rfl fun k _ => ext_of_lt f k.isLt

/-- The kernel's linear layer of the first launch is `linear` of the decoded scales and minima. -/
theorem linear28_apply (lo hi : Vec Ideal S32x3584 .bf16) (q : Vec Ideal S256x3584 .i8) (s m : Vec Ideal S256x224 .i16)
    (i : Fin 32) (r : Fin 256) :
    linear28 lo hi q s m (ix2 i r)
      = linear (R := 256) (K := 3584) (G := 224) rfl lo hi q (fun j => decodeWord (s j)) (fun j => decodeWord (m j)) i r := by
  unfold linear28 linear
  rw [← sum_ext, ← sum_ext]
  refine chain_apply (N := 28) _ _ _ _ _ i r _ _ (fun n k => ?_) (fun n k => ?_) 28 (Nat.le_refl 28) <;>
  · have h : (128 * n.val + k.val) / 16 = 8 * n.val + k.val / 16 := by omega
    rw [ext_of_lt _ (by omega), spread224, spread224, decode_apply, decode_apply]
    pointwise
    simp only [h]

/-- The kernel's linear layer of the second launch is `linear` of the decoded scales and minima. -/
theorem linear36_apply (lo hi : Vec Ideal S32x4608 .bf16) (q : Vec Ideal S256x4608 .i8) (s m : Vec Ideal S256x288 .i16)
    (i : Fin 32) (r : Fin 256) :
    linear36 lo hi q s m (ix2 i r)
      = linear (R := 256) (K := 4608) (G := 288) rfl lo hi q (fun j => decodeWord (s j)) (fun j => decodeWord (m j)) i r := by
  unfold linear36 linear
  rw [← sum_ext, ← sum_ext]
  refine chain_apply (N := 36) _ _ _ _ _ i r _ _ (fun n k => ?_) (fun n k => ?_) 36 (Nat.le_refl 36) <;>
  · have h : (128 * n.val + k.val) / 16 = 8 * n.val + k.val / 16 := by omega
    rw [ext_of_lt _ (by omega), spread288, spread288, decode_apply, decode_apply]
    pointwise
    simp only [h]

end Cert.KernelIdeal.Chain
-- ==== Proof.Spec.lean ====
/-
  The common form of both programs' results: the two halves of the activations, the hidden activations, the output.
-/
module

public import proofs.«01_k».proof.Proof.Values

@[expose] public section

noncomputable section

namespace Cert.KernelIdeal.Chain

open Cert.KernelIdeal Cert.KernelIdeal.Gen Idealize.ShloMosaic

/-- The activations that meet the low codes of the first two layers: the first 16 of every 32 columns. -/
def low224 (x : Vec Ideal S32x7168 .bf16) : Vec Ideal S32x3584 .bf16 :=
  shapeCast S32x3584 (shapeCast S32x224x16 (extractStridedSlice S32x224x1x16 ![0, 0, 0, 0]
    (shapeCast S32x224x2x16 x shapeCasts_S32x7168_S32x224x2x16) slices_S32x224x2x16_S32x224x1x16_0_0_0_0)
    shapeCasts_S32x224x1x16_S32x224x16) shapeCasts_S32x224x16_S32x3584

/-- The activations that meet the high codes of the first two layers: the last 16 of every 32 columns. -/
def high224 (x : Vec Ideal S32x7168 .bf16) : Vec Ideal S32x3584 .bf16 :=
  shapeCast S32x3584 (shapeCast S32x224x16 (extractStridedSlice S32x224x1x16 ![0, 0, 1, 0]
    (shapeCast S32x224x2x16 x shapeCasts_S32x7168_S32x224x2x16) slices_S32x224x2x16_S32x224x1x16_0_0_1_0)
    shapeCasts_S32x224x1x16_S32x224x16) shapeCasts_S32x224x16_S32x3584

/-- The hidden activations that meet the low codes of the last layer. -/
def low288 (h : Vec Ideal S32x9216 .bf16) : Vec Ideal S32x4608 .bf16 :=
  shapeCast S32x4608 (shapeCast S32x288x16 (extractStridedSlice S32x288x1x16 ![0, 0, 0, 0]
    (shapeCast S32x288x2x16 h shapeCasts_S32x9216_S32x288x2x16) slices_S32x288x2x16_S32x288x1x16_0_0_0_0)
    shapeCasts_S32x288x1x16_S32x288x16) shapeCasts_S32x288x16_S32x4608

/-- The hidden activations that meet the high codes of the last layer. -/
def high288 (h : Vec Ideal S32x9216 .bf16) : Vec Ideal S32x4608 .bf16 :=
  shapeCast S32x4608 (shapeCast S32x288x16 (extractStridedSlice S32x288x1x16 ![0, 0, 1, 0]
    (shapeCast S32x288x2x16 h shapeCasts_S32x9216_S32x288x2x16) slices_S32x288x2x16_S32x288x1x16_0_0_1_0)
    shapeCasts_S32x288x1x16_S32x288x16) shapeCasts_S32x288x16_S32x4608

/-- The hidden activations: `gate * logistic gate * up` of the two linear layers. -/
def hidden (lo hi : Vec Ideal S32x3584 .bf16) (q1 : Vec Ideal S9216x3584 .i8) (s1 m1 : S9216x224.Idx → EReal)
    (q2 : Vec Ideal S9216x3584 .i8) (s2 m2 : S9216x224.Idx → EReal) : Vec Ideal S32x9216 .bf16 := fun j =>
  linear (R := 9216) (K := 3584) (G := 224) rfl lo hi q1 s1 m1 (j 0) (j 1)
    * Ideal.logistic (linear (R := 9216) (K := 3584) (G := 224) rfl lo hi q1 s1 m1 (j 0) (j 1))
    * linear (R := 9216) (K := 3584) (G := 224) rfl lo hi q2 s2 m2 (j 0) (j 1)

/-- The last linear layer. -/
def output (lo hi : Vec Ideal S32x4608 .bf16) (q : Vec Ideal S7168x4608 .i8) (s m : S7168x288.Idx → EReal) :
    Vec Ideal S32x7168 .bf16 := fun j =>
  linear (R := 7168) (K := 4608) (G := 288) rfl lo hi q s m (j 0) (j 1)

/-- The whole computation, from the activations, the codes, and the numbers that the scales and minima are. -/
def swiglu (x : Vec Ideal S32x1x7168 .bf16) (q1 : Vec Ideal S9216x3584 .i8) (s1 m1 : S9216x224.Idx → EReal)
    (q2 : Vec Ideal S9216x3584 .i8) (s2 m2 : S9216x224.Idx → EReal)
    (q3 : Vec Ideal S7168x4608 .i8) (s3 m3 : S7168x288.Idx → EReal) : Vec Ideal S32x1x7168 .bf16 :=
  shapeCast S32x1x7168 (output
    (low288 (hidden (low224 (shapeCast S32x7168 x shapeCasts_S32x1x7168_S32x7168))
      (high224 (shapeCast S32x7168 x shapeCasts_S32x1x7168_S32x7168)) q1 s1 m1 q2 s2 m2))
    (high288 (hidden (low224 (shapeCast S32x7168 x shapeCasts_S32x1x7168_S32x7168))
      (high224 (shapeCast S32x7168 x shapeCasts_S32x1x7168_S32x7168)) q1 s1 m1 q2 s2 m2)) q3 s3 m3)
    shapeCasts_S32x7168_S32x1x7168

end Cert.KernelIdeal.Chain
-- ==== Proof.Regions.lean ====
/-
  What each launch leaves in its result array: every block is the chain of pieces of Proof/Chain.lean, which at an index
  is the linear layer, and the blocks fill the array.
-/
module

public import proofs.«01_k».proof.Proof.Blocks
public import proofs.«01_k».proof.Proof.Windows
public import proofs.«01_k».proof.Proof.Spec

@[expose] public section

noncomputable section

namespace Cert.KernelIdeal.Chain

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b))

/-- The block corner that the programs spell `![0, 0]` is the zero corner. -/
theorem hz : (![0, 0] : Fin 2 → Nat) = fun _ => 0 := funext fun a => by fin_cases a <;> rfl

/-- An index of a matrix is its row and its column. -/
theorem eq_pair {R K : Nat} (j : (⟨2, ![R, K]⟩ : Shape).Idx) : ∃ (i : Fin R) (r : Fin K), j = ix2 i r :=
  ⟨j 0, j 1, Shape.idx_ext₂ rfl rfl⟩

/-- The first launch's chain on rows `f r` of its weight arrays. -/
theorem linear28_rows (lo hi : Vec Ideal S32x3584 .bf16) (q : Vec Ideal S256x3584 .i8) (s m : Vec Ideal S256x224 .i16)
    (q' : Vec Ideal S9216x3584 .i8) (s' m' : Vec Ideal S9216x224 .i16) (f : Fin 256 → Fin 9216)
    (hq : ∀ r k, q (ix2 r k) = q' (ix2 (f r) k)) (hs : ∀ r k, s (ix2 r k) = s' (ix2 (f r) k))
    (hm : ∀ r k, m (ix2 r k) = m' (ix2 (f r) k)) (i : Fin 32) (r : Fin 256) :
    linear28 lo hi q s m (ix2 i r) = linear (R := 9216) (K := 3584) (G := 224) rfl lo hi q'
      (fun j => decodeWord (s' j)) (fun j => decodeWord (m' j)) i (f r) := by
  rw [linear28_apply]
  simp only [linear, hq, hs, hm]

/-- The second launch's chain on rows `f r` of its weight arrays. -/
theorem linear36_rows (lo hi : Vec Ideal S32x4608 .bf16) (q : Vec Ideal S256x4608 .i8) (s m : Vec Ideal S256x288 .i16)
    (q' : Vec Ideal S7168x4608 .i8) (s' m' : Vec Ideal S7168x288 .i16) (f : Fin 256 → Fin 7168)
    (hq : ∀ r k, q (ix2 r k) = q' (ix2 (f r) k)) (hs : ∀ r k, s (ix2 r k) = s' (ix2 (f r) k))
    (hm : ∀ r k, m (ix2 r k) = m' (ix2 (f r) k)) (i : Fin 32) (r : Fin 256) :
    linear36 lo hi q s m (ix2 i r) = linear (R := 7168) (K := 4608) (G := 288) rfl lo hi q'
      (fun j => decodeWord (s' j)) (fun j => decodeWord (m' j)) i (f r) := by
  rw [linear36_apply]
  simp only [linear, hq, hs, hm]

/-- A block of the first launch, at an index, from the linear layers of its two chains. -/
theorem gated_apply (g u : FVec Ideal S32x256 .f32) (j : S32x256.Idx) :
    truncf .bf16 (mulf (mulf g (logistic g)) u) bitsLt_bf16_f32 j = g j * Ideal.logistic (g j) * u j := rfl

/-- The hidden activations of the first launch, from the contents of its arrays. -/
def hiddenOf (c : Dev nD) : Vec Ideal S32x9216 .bf16 :=
  hidden (V c main_v4) (V c main_v7)
    (V c main_arg1) (fun j => decodeWord ((V c main_arg2 : Vec Ideal S9216x224 .i16) j))
    (fun j => decodeWord ((V c main_arg3 : Vec Ideal S9216x224 .i16) j))
    (V c main_arg4) (fun j => decodeWord ((V c main_arg5 : Vec Ideal S9216x224 .i16) j))
    (fun j => decodeWord ((V c main_arg6 : Vec Ideal S9216x224 .i16) j))

/-- The result of the second launch, from the contents of its arrays. -/
def outputOf (c : Dev nD) : Vec Ideal S32x7168 .bf16 :=
  output (V c main_v12) (V c main_v15)
    (V c main_arg7) (fun j => decodeWord ((V c main_arg8 : Vec Ideal S7168x288 .i16) j))
    (fun j => decodeWord ((V c main_arg9 : Vec Ideal S7168x288 .i16) j))

/-- What grid point `t` of the first launch writes back is block `t` of the hidden activations. -/
theorem flushed0 (c : Dev nD) (t : Fin cfg0.N) :
    (dat0 V c).flushed 8 t = (win0_8.blk t).view.read (Elt Ideal) (hiddenOf V c) := by
  show (cfg0.win 8).cut (grid0.coords t) ((dat0 V c).after 8 t) = _
  rw [after0_8, out0_eq, View.canon_unit_zero hz, View.ld_unit_zero hz, View.ld_unit_zero hz, View.ld_unit_zero hz,
    View.ld_unit_zero hz]
  refine funext fun (j : S32x256.Idx) => ?_
  obtain ⟨i, r, rfl⟩ := eq_pair j
  refine Eq.trans ?_ (read_out0 (hiddenOf V c) t i r).symm
  have hg := linear28_rows (iblk0 V c 0 t) (iblk0 V c 1 t) _ _ _ _ _ _ (row0 t) (iblk0_2 V c t) (iblk0_3 V c t) (iblk0_4 V c t) i r
  have hu := linear28_rows (iblk0 V c 0 t) (iblk0 V c 1 t) _ _ _ _ _ _ (row0 t) (iblk0_5 V c t) (iblk0_6 V c t) (iblk0_7 V c t) i r
  refine (gated_apply _ _ (ix2 i r)).trans ?_
  rw [hg, hu, iblk0_0, iblk0_1]
  rfl

/-- The first launch leaves the hidden activations in its result array. -/
theorem final0 (c : Dev nD) : (dat0 V c).arrAt 8 cfg0.N = hiddenOf V c :=
  (dat0 V c).arrAt_eq_of_cover 8 (hiddenOf V c) (fun t _ => flushed0 V c t) cover0

/-- What grid point `t` of the second launch writes back is block `t` of the output. -/
theorem flushed1 (c : Dev nD) (t : Fin cfg1.N) :
    (dat1 V c).flushed 5 t = (win1_5.blk t).view.read (Elt Ideal) (outputOf V c) := by
  show (cfg1.win 5).cut (grid1.coords t) ((dat1 V c).after 5 t) = _
  rw [after1_5, out1_eq, View.canon_unit_zero hz, View.ld_unit_zero hz, View.ld_unit_zero hz]
  refine funext fun (j : S32x256.Idx) => ?_
  obtain ⟨i, r, rfl⟩ := eq_pair j
  refine Eq.trans ?_ (read_out1 (outputOf V c) t i r).symm
  refine Eq.trans (linear36_rows (iblk1 V c 0 t) (iblk1 V c 1 t) _ _ _ _ _ _ (row1 t) (iblk1_2 V c t) (iblk1_3 V c t)
    (iblk1_4 V c t) i r) ?_
  rw [iblk1_0, iblk1_1]
  rfl

/-- The second launch leaves the output in its result array. -/
theorem final1 (c : Dev nD) : (dat1 V c).arrAt 5 cfg1.N = outputOf V c :=
  (dat1 V c).arrAt_eq_of_cover 5 (outputOf V c) (fun t _ => flushed1 V c t) cover1

end Cert.KernelIdeal.Chain
-- ==== Proof.KernelRun.lean ====
/-
  The kernel's run: what the last buffer holds, and that the arguments are as they were.
-/
module

public import proofs.«01_k».proof.Proof.Regions
public import Idealize.ShloMosaic.Lib.StableHlo.RunRead

@[expose] public section

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Host

variable (W : Valuation τ sig (Elt Ideal))

/-- The operations before the first launch take out the activations that meet the low codes, -/
theorem host0_low : StableHlo.after hostOps0 W (Proc.devRef .tc main_v4)
    = low224 (shapeCast S32x7168 (W (Proc.devRef .tc main_arg0)) shapeCasts_S32x1x7168_S32x7168) := by
  after_reads_simp
  rfl

/-- and those that meet the high codes. -/
theorem host0_high : StableHlo.after hostOps0 W (Proc.devRef .tc main_v7)
    = high224 (shapeCast S32x7168 (W (Proc.devRef .tc main_arg0)) shapeCasts_S32x1x7168_S32x7168) := by
  after_reads_simp
  rfl

/-- The operations between the launches take out the hidden activations that meet the low codes, -/
theorem host1_low : StableHlo.after hostOps1 W (Proc.devRef .tc main_v12) = low288 (W (Proc.devRef .tc main_v8)) := by
  after_reads_simp
  rfl

/-- and those that meet the high codes. -/
theorem host1_high : StableHlo.after hostOps1 W (Proc.devRef .tc main_v15) = high288 (W (Proc.devRef .tc main_v8)) := by
  after_reads_simp
  rfl

/-- The operation after the launches gives the result its shape. -/
theorem host2_out : StableHlo.after hostOps2 W (Proc.devRef .tc main_v17)
    = shapeCast S32x1x7168 (W (Proc.devRef .tc main_v16) : Vec Ideal S32x7168 .bf16) shapeCasts_S32x7168_S32x1x7168 := by
  after_reads_simp
  rfl

end Host

variable (m : (ℓ : Loc nD τ sig) → Buf (Elt Ideal) ℓ) (ρ : Dev nD → PrngReg)

/-- The whole computation on the arguments in memory `m`, with the kernel's own decoding. -/
def result (c : Dev nD) : Vec Ideal S32x1x7168 .bf16 :=
  swiglu (m ((c : Thread nD τ).loc main_arg0))
    (m ((c : Thread nD τ).loc main_arg1)) (fun j => decodeWord ((m ((c : Thread nD τ).loc main_arg2) : Vec Ideal S9216x224 .i16) j))
    (fun j => decodeWord ((m ((c : Thread nD τ).loc main_arg3) : Vec Ideal S9216x224 .i16) j))
    (m ((c : Thread nD τ).loc main_arg4)) (fun j => decodeWord ((m ((c : Thread nD τ).loc main_arg5) : Vec Ideal S9216x224 .i16) j))
    (fun j => decodeWord ((m ((c : Thread nD τ).loc main_arg6) : Vec Ideal S9216x224 .i16) j))
    (m ((c : Thread nD τ).loc main_arg7)) (fun j => decodeWord ((m ((c : Thread nD τ).loc main_arg8) : Vec Ideal S7168x288 .i16) j))
    (fun j => decodeWord ((m ((c : Thread nD τ).loc main_arg9) : Vec Ideal S7168x288 .i16) j))

/-- The hidden activations in memory are those of the arguments. -/
theorem hidden_eq (c : Dev nD) : W2 m ρ c (Proc.devRef .tc main_v8) = hidden
    (low224 (shapeCast S32x7168 (m ((c : Thread nD τ).loc main_arg0)) shapeCasts_S32x1x7168_S32x7168))
    (high224 (shapeCast S32x7168 (m ((c : Thread nD τ).loc main_arg0)) shapeCasts_S32x1x7168_S32x7168))
    (m ((c : Thread nD τ).loc main_arg1)) (fun j => decodeWord ((m ((c : Thread nD τ).loc main_arg2) : Vec Ideal S9216x224 .i16) j))
    (fun j => decodeWord ((m ((c : Thread nD τ).loc main_arg3) : Vec Ideal S9216x224 .i16) j))
    (m ((c : Thread nD τ).loc main_arg4)) (fun j => decodeWord ((m ((c : Thread nD τ).loc main_arg5) : Vec Ideal S9216x224 .i16) j))
    (fun j => decodeWord ((m ((c : Thread nD τ).loc main_arg6) : Vec Ideal S9216x224 .i16) j)) := by
  refine (W2_arr m ρ c 8).trans ((final0 (V1 m ρ) c).trans ?_)
  unfold hiddenOf
  have a := W1_args m ρ c
  have h1 : V1 m ρ c main_v4 = _ := host0_low (W0 m ρ c)
  have h2 : V1 m ρ c main_v7 = _ := host0_high (W0 m ρ c)
  have b1 : V1 m ρ c main_arg1 = _ := a main_arg1 (by decide)
  have b2 : V1 m ρ c main_arg2 = _ := a main_arg2 (by decide)
  have b3 : V1 m ρ c main_arg3 = _ := a main_arg3 (by decide)
  have b4 : V1 m ρ c main_arg4 = _ := a main_arg4 (by decide)
  have b5 : V1 m ρ c main_arg5 = _ := a main_arg5 (by decide)
  have b6 : V1 m ρ c main_arg6 = _ := a main_arg6 (by decide)
  rw [h1, h2, b1, b2, b3, b4, b5, b6]

/-- The last buffer of the kernel's run holds the whole computation. -/
theorem result_eq (c : Dev nD) : W5 m ρ c (Proc.devRef .tc main_v17) = result m c := by
  refine (host2_out (W4 m ρ c)).trans ?_
  have h : W4 m ρ c (Proc.devRef .tc main_v16) = outputOf (V3 m ρ) c := (W4_arr m ρ c 5).trans (final1 (V3 m ρ) c)
  rw [h]
  unfold outputOf result swiglu
  have a := W3_args m ρ c
  have h1 : V3 m ρ c main_v12 = _ := host1_low (W2 m ρ c)
  have h2 : V3 m ρ c main_v15 = _ := host1_high (W2 m ρ c)
  have b7 : V3 m ρ c main_arg7 = _ := a main_arg7 (by decide)
  have b8 : V3 m ρ c main_arg8 = _ := a main_arg8 (by decide)
  have b9 : V3 m ρ c main_arg9 = _ := a main_arg9 (by decide)
  rw [h1, h2, b7, b8, b9, hidden_eq m ρ c]

set_option backward.isDefEq.respectTransparency.types false in
/-- Every run of the kernel ends with the whole computation in the result buffer and the arguments as they were. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v17 (by decide))).trans (result_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Chain
-- ==== Proof.RefArrays.lean ====
/-
  What the reference's one launch leaves in its six result arrays: the float16 patterns read as numbers.
-/
module

public import proofs.«01_k».proof.Proof.Gen.ReferenceIdeal.Frame
public import Idealize.ShloMosaic.Lib.Pipeline.Value
public import proofs.«01_k».proof.Proof.Spec

@[expose] public section

noncomputable section

namespace Cert.ReferenceIdeal.Layers

open Cert.ReferenceIdeal Cert.ReferenceIdeal.Gen Idealize.ShloMosaic Idealize.ShloMosaic.TcCoe
open Idealize.ShloMosaic.Pipeline (Dat)

variable (m : (ℓ : Loc nD τ sig) → Buf (Elt Ideal) ℓ)

/-- The block corner that the program spells `![0, 0]` is the zero corner. -/
theorem hz : (![0, 0] : Fin 2 → Nat) = fun _ => 0 := funext fun a => by fin_cases a <;> rfl

/-- The numbers that an array of float16 patterns stands for. -/
def numbers {s : Shape} (b : s.Idx → BitVec 16) : s.Idx → EReal := fun j => Ideal.ofBits .f16 (b j)

/-- A block that starts at index zero and is as large as its array holds every index. -/
theorem mem_whole (b : Ref sig .tc) (off size : Fin b.ty.shape.rank → Nat) (inb : ∀ a, off a + size a ≤ b.ty.shape.size a)
    (h0 : ∀ a, off a = 0) (hs : ∀ a, size a = b.ty.shape.size a) (i : b.ty.shape.Idx) :
    i ∈ ((View.whole b).slice (Rect.unit (s := b.ty.shape) off size inb)).set := by
  rw [View.set_slice_whole, Rect.mem_set_unit]
  intro a
  rw [h0, hs, Nat.zero_add]
  exact ⟨Nat.zero_le _, (i a).isLt⟩

/-- The block of a 9216 by 224 array that the launch leaves: the numbers of the patterns. -/
theorem widen224 (x : Vec Ideal S9216x224 .i16) :
    (View.canon [⟨r0_0, k0_pay1 (View.ld x r0_0)⟩] : Vec Ideal S9216x224 .f32) = numbers (s := S9216x224) x := by
  rw [View.canon_unit_zero hz, View.ld_unit_zero hz]
  rfl

/-- The block of a 7168 by 288 array that the launch leaves: the numbers of the patterns. -/
theorem widen288 (x : Vec Ideal S7168x288 .i16) :
    (View.canon [⟨r0_1, k0_pay5 (View.ld x r0_1)⟩] : Vec Ideal S7168x288 .f32) = numbers (s := S7168x288) x := by
  rw [View.canon_unit_zero hz, View.ld_unit_zero hz]
  rfl

/-- The gate layer's scales. -/
theorem final6 (c : Dev nD) : (dats m 0 c).arrAt 6 cfg0.N = numbers (m ((c : Thread nD τ).loc main_arg2)) :=
  (dats m 0 c).arrAt_eq_of_cover 6 _
    (fun t _ => congrArg ((cfg0.win 6).cut (grid0.coords t)) ((after0_6 m c t).trans (widen224 (iblk m c 0 t))))
    fun i => ⟨t0_0, flush0_6 _, mem_whole main_v0_0 _ _ _ (fun _ => Nat.zero_mul _) (fun _ => rfl) i⟩

/-- The gate layer's minima. -/
theorem final7 (c : Dev nD) : (dats m 0 c).arrAt 7 cfg0.N = numbers (m ((c : Thread nD τ).loc main_arg3)) :=
  (dats m 0 c).arrAt_eq_of_cover 7 _
    (fun t _ => congrArg ((cfg0.win 7).cut (grid0.coords t)) ((after0_7 m c t).trans (widen224 (iblk m c 1 t))))
    fun i => ⟨t0_0, flush0_7 _, mem_whole main_v0_1 _ _ _ (fun _ => Nat.zero_mul _) (fun _ => rfl) i⟩

/-- The up layer's scales. -/
theorem final8 (c : Dev nD) : (dats m 0 c).arrAt 8 cfg0.N = numbers (m ((c : Thread nD τ).loc main_arg5)) :=
  (dats m 0 c).arrAt_eq_of_cover 8 _
    (fun t _ => congrArg ((cfg0.win 8).cut (grid0.coords t)) ((after0_8 m c t).trans (widen224 (iblk m c 2 t))))
    fun i => ⟨t0_0, flush0_8 _, mem_whole main_v0_2 _ _ _ (fun _ => Nat.zero_mul _) (fun _ => rfl) i⟩

/-- The up layer's minima. -/
theorem final9 (c : Dev nD) : (dats m 0 c).arrAt 9 cfg0.N = numbers (m ((c : Thread nD τ).loc main_arg6)) :=
  (dats m 0 c).arrAt_eq_of_cover 9 _
    (fun t _ => congrArg ((cfg0.win 9).cut (grid0.coords t)) ((after0_9 m c t).trans (widen224 (iblk m c 3 t))))
    fun i => ⟨t0_0, flush0_9 _, mem_whole main_v0_3 _ _ _ (fun _ => Nat.zero_mul _) (fun _ => rfl) i⟩

/-- The last layer's scales. -/
theorem final10 (c : Dev nD) : (dats m 0 c).arrAt 10 cfg0.N = numbers (m ((c : Thread nD τ).loc main_arg8)) :=
  (dats m 0 c).arrAt_eq_of_cover 10 _
    (fun t _ => congrArg ((cfg0.win 10).cut (grid0.coords t)) ((after0_10 m c t).trans (widen288 (iblk m c 4 t))))
    fun i => ⟨t0_0, flush0_10 _, mem_whole main_v0_4 _ _ _ (fun _ => Nat.zero_mul _) (fun _ => rfl) i⟩

/-- The last layer's minima. -/
theorem final11 (c : Dev nD) : (dats m 0 c).arrAt 11 cfg0.N = numbers (m ((c : Thread nD τ).loc main_arg9)) :=
  (dats m 0 c).arrAt_eq_of_cover 11 _
    (fun t _ => congrArg ((cfg0.win 11).cut (grid0.coords t)) ((after0_11 m c t).trans (widen288 (iblk m c 5 t))))
    fun i => ⟨t0_0, flush0_11 _, mem_whole main_v0_5 _ _ _ (fun _ => Nat.zero_mul _) (fun _ => rfl) i⟩

end Cert.ReferenceIdeal.Layers
-- ==== Proof.RefSpec.lean ====
/-
  The reference's linear layer at an index: the same two sums as the kernel's.
-/
module

public import proofs.«01_k».proof.Proof.Gen.ReferenceIdeal
public import proofs.«01_k».proof.Proof.Spec

@[expose] public section

noncomputable section

namespace Cert.ReferenceIdeal.Layers

open Cert.ReferenceIdeal Cert.ReferenceIdeal.Gen Idealize.ShloMosaic
open Cert.KernelIdeal.Chain (linear lowCode highCode)

/-- The reference's weights of a first-layer matrix, from the codes of one half. -/
def weights224 (code : IVec S9216x224x16 32) (s m : FVec Ideal S9216x224 .f32) : FVec Ideal S9216x3584 .bf16 :=
  shapeCast S9216x3584 (truncf .bf16 (addf (mulf (sitofp .f32 code)
      (broadcastInDim S9216x224x16 ![0, 1, 2] bcast_S9216x224x1_S9216x224x16_0_1_2
        (broadcastInDim S9216x224x1 ![0, 1] bcast_S9216x224_S9216x224x1_0_1 s)))
      (broadcastInDim S9216x224x16 ![0, 1, 2] bcast_S9216x224x1_S9216x224x16_0_1_2
        (broadcastInDim S9216x224x1 ![0, 1] bcast_S9216x224_S9216x224x1_0_1 m))) bitsLt_bf16_f32)
    shapeCasts_S9216x224x16_S9216x3584

/-- The codes of a first-layer matrix, by group. -/
def codes224 (q : Vec Ideal S9216x3584 .i8) : IVec S9216x224x16 32 :=
  shapeCast S9216x224x16 (extui 32 q natLt_8_32 : IVec S9216x3584 32) shapeCasts_S9216x3584_S9216x224x16

/-- A first-layer linear layer of the reference. -/
def layer224 (lo hi : Vec Ideal S32x3584 .bf16) (q : Vec Ideal S9216x3584 .i8) (s m : FVec Ideal S9216x224 .f32) :
    FVec Ideal S32x9216 .f32 :=
  addf
    (Host.dotGeneral (φ₁ := .bf16) dot_S32x3584_S9216x3584_S32x9216_1_1_0_0_n_n none lo (weights224
      (andi (codes224 q) (broadcastInDim S9216x224x16 ![] bcast_S_S9216x224x16 (constantI S_ 32 15#32))) s m))
    (Host.dotGeneral (φ₁ := .bf16) dot_S32x3584_S9216x3584_S32x9216_1_1_0_0_n_n none hi (weights224
      (Host.shrsi (codes224 q) (broadcastInDim S9216x224x16 ![] bcast_S_S9216x224x16 (constantI S_ 32 4#32))) s m))

/-- A first-layer linear layer of the reference at an index. -/
theorem layer224_apply (lo hi : Vec Ideal S32x3584 .bf16) (q : Vec Ideal S9216x3584 .i8) (s m : FVec Ideal S9216x224 .f32)
    (i : Fin 32) (r : Fin 9216) :
    layer224 lo hi q s m (ix2 i r) = linear (R := 9216) (K := 3584) (G := 224) rfl lo hi q s m i r := by
  pointwise [layer224, weights224, codes224, dot_S32x3584_S9216x3584_S32x9216_1_1_0_0_n_n]
  rfl

/-- The reference's weights of the last matrix, from the codes of one half. -/
def weights288 (code : IVec S7168x288x16 32) (s m : FVec Ideal S7168x288 .f32) : FVec Ideal S7168x4608 .bf16 :=
  shapeCast S7168x4608 (truncf .bf16 (addf (mulf (sitofp .f32 code)
      (broadcastInDim S7168x288x16 ![0, 1, 2] bcast_S7168x288x1_S7168x288x16_0_1_2
        (broadcastInDim S7168x288x1 ![0, 1] bcast_S7168x288_S7168x288x1_0_1 s)))
      (broadcastInDim S7168x288x16 ![0, 1, 2] bcast_S7168x288x1_S7168x288x16_0_1_2
        (broadcastInDim S7168x288x1 ![0, 1] bcast_S7168x288_S7168x288x1_0_1 m))) bitsLt_bf16_f32)
    shapeCasts_S7168x288x16_S7168x4608

/-- The codes of the last matrix, by group. -/
def codes288 (q : Vec Ideal S7168x4608 .i8) : IVec S7168x288x16 32 :=
  shapeCast S7168x288x16 (extui 32 q natLt_8_32 : IVec S7168x4608 32) shapeCasts_S7168x4608_S7168x288x16

/-- The last linear layer of the reference. -/
def layer288 (lo hi : Vec Ideal S32x4608 .bf16) (q : Vec Ideal S7168x4608 .i8) (s m : FVec Ideal S7168x288 .f32) :
    FVec Ideal S32x7168 .f32 :=
  addf
    (Host.dotGeneral (φ₁ := .bf16) dot_S32x4608_S7168x4608_S32x7168_1_1_0_0_n_n none lo (weights288
      (andi (codes288 q) (broadcastInDim S7168x288x16 ![] bcast_S_S7168x288x16 (constantI S_ 32 15#32))) s m))
    (Host.dotGeneral (φ₁ := .bf16) dot_S32x4608_S7168x4608_S32x7168_1_1_0_0_n_n none hi (weights288
      (Host.shrsi (codes288 q) (broadcastInDim S7168x288x16 ![] bcast_S_S7168x288x16 (constantI S_ 32 4#32))) s m))

/-- The last linear layer of the reference at an index. -/
theorem layer288_apply (lo hi : Vec Ideal S32x4608 .bf16) (q : Vec Ideal S7168x4608 .i8) (s m : FVec Ideal S7168x288 .f32)
    (i : Fin 32) (r : Fin 7168) :
    layer288 lo hi q s m (ix2 i r) = linear (R := 7168) (K := 4608) (G := 288) rfl lo hi q s m i r := by
  pointwise [layer288, weights288, codes288, dot_S32x4608_S7168x4608_S32x7168_1_1_0_0_n_n]
  rfl

/-- The reference's hidden activations from its two first layers. -/
def gated (g u : FVec Ideal S32x9216 .f32) : FVec Ideal S32x9216 .bf16 :=
  truncf .bf16 (mulf (mulf g (Host.divf (broadcastInDim S32x9216 ![] bcast_S_S32x9216 (constant S_ .f32 0x3F800000#32))
    (addf (broadcastInDim S32x9216 ![] bcast_S_S32x9216 (constant S_ .f32 0x3F800000#32)) (Host.exp (Host.negf g))))) u)
    bitsLt_bf16_f32

/-- The hidden activations at an index: the reference's `1 / (1 + e^(-g))` is the logistic function. -/
theorem gated_apply (g u : FVec Ideal S32x9216 .f32) (j : S32x9216.Idx) :
    gated g u j = g j * Ideal.logistic (g j) * u j := by
  have h1 : Ideal.ofBits .f32 0x3F800000#32 = 1 := by simp
  show g j * Ideal.div (Ideal.ofBits .f32 0x3F800000#32) (Ideal.ofBits .f32 0x3F800000#32 + Ideal.exp (-(g j))) * u j = _
  rw [h1]
  rfl

end Cert.ReferenceIdeal.Layers
-- ==== Proof.RefRun.lean ====
/-
  The reference's run: what the last buffer holds, and that the arguments are as they were.
-/
module

public import proofs.«01_k».proof.Proof.RefArrays
public import proofs.«01_k».proof.Proof.RefSpec
public import Idealize.ShloMosaic.Lib.StableHlo.RunRead

@[expose] public section

noncomputable section

namespace Cert.ReferenceIdeal.Layers

open Cert.ReferenceIdeal Cert.ReferenceIdeal.Gen Idealize.ShloMosaic Idealize.ShloMosaic.TcCoe Idealize.SL.Sem
open Cert.KernelIdeal.Chain (low224 high224 low288 high288 hidden output swiglu linear)

section Host

variable (W : Valuation τ sig (Elt Ideal))

/-- The activations without their axis of extent one. -/
abbrev flat : Vec Ideal S32x7168 .bf16 :=
  shapeCast S32x7168 (W (Proc.devRef .tc main_arg0) : Vec Ideal S32x1x7168 .bf16) shapeCasts_S32x1x7168_S32x7168

set_option maxRecDepth 8192 in
/-- The operations after the launch compute the gate layer, -/
theorem host_gate : StableHlo.after hostOps1 W (Proc.devRef .tc main_v33) =
    layer224 (low224 (flat W)) (high224 (flat W)) (W (Proc.devRef .tc main_arg1)) (W (Proc.devRef .tc main_v0_0))
      (W (Proc.devRef .tc main_v0_1)) := by
  after_reads_simp
  rfl

set_option maxRecDepth 8192 in
/-- and the up layer, -/
theorem host_up : StableHlo.after hostOps1 W (Proc.devRef .tc main_v65) =
    layer224 (low224 (flat W)) (high224 (flat W)) (W (Proc.devRef .tc main_arg4)) (W (Proc.devRef .tc main_v0_2))
      (W (Proc.devRef .tc main_v0_3)) := by
  after_reads_simp
  rfl

/-- the gated product of the two, -/
theorem host_silu : StableHlo.after hostOps1_1 W (Proc.devRef .tc main_v66) =
    (mulf (W (Proc.devRef .tc main_v33) : FVec Ideal S32x9216 .f32)
      (Host.divf (broadcastInDim S32x9216 ![] bcast_S_S32x9216 (constant S_ .f32 0x3F800000#32))
        (addf (broadcastInDim S32x9216 ![] bcast_S_S32x9216 (constant S_ .f32 0x3F800000#32))
          (Host.exp (Host.negf (W (Proc.devRef .tc main_v33) : FVec Ideal S32x9216 .f32))))) : FVec Ideal S32x9216 .f32) := by
  after_reads_simp
  rfl

/-- The hidden activations before the last layer. -/
abbrev product : FVec Ideal S32x9216 .bf16 :=
  truncf .bf16 (mulf (W (Proc.devRef .tc main_v66) : FVec Ideal S32x9216 .f32) (W (Proc.devRef .tc main_v65))) bitsLt_bf16_f32

set_option maxRecDepth 8192 in
/-- and the last layer. -/
theorem host_out : StableHlo.after hostOps1_2 W (Proc.devRef .tc main_v102) =
    shapeCast S32x1x7168 (truncf .bf16 (layer288 (low288 (product W)) (high288 (product W)) (W (Proc.devRef .tc main_arg7))
      (W (Proc.devRef .tc main_v0_4)) (W (Proc.devRef .tc main_v0_5))) bitsLt_bf16_f32 : Vec Ideal S32x7168 .bf16)
      shapeCasts_S32x7168_S32x1x7168 := by
  after_reads_simp
  rfl

end Host

/-- The gated product of the reference's two first layers is the hidden activations. -/
theorem gated_layers (lo hi : Vec Ideal S32x3584 .bf16) (q1 q2 : Vec Ideal S9216x3584 .i8)
    (s1 m1 s2 m2 : FVec Ideal S9216x224 .f32) :
    gated (layer224 lo hi q1 s1 m1) (layer224 lo hi q2 s2 m2) = hidden lo hi q1 s1 m1 q2 s2 m2 := by
  refine funext fun j => (gated_apply _ _ j).trans ?_
  obtain ⟨i, r, rfl⟩ : ∃ (i : Fin 32) (r : Fin 9216), j = ix2 i r := ⟨j 0, j 1, Shape.idx_ext₂ rfl rfl⟩
  rw [layer224_apply, layer224_apply]
  rfl

/-- The reference's last layer is the output. -/
theorem rounded_layer (lo hi : Vec Ideal S32x4608 .bf16) (q : Vec Ideal S7168x4608 .i8) (s m : FVec Ideal S7168x288 .f32) :
    (truncf .bf16 (layer288 lo hi q s m) bitsLt_bf16_f32 : Vec Ideal S32x7168 .bf16) = output lo hi q s m := by
  refine funext fun j => ?_
  obtain ⟨i, r, rfl⟩ : ∃ (i : Fin 32) (r : Fin 7168), j = ix2 i r := ⟨j 0, j 1, Shape.idx_ext₂ rfl rfl⟩
  exact layer288_apply lo hi q s m i r

variable (m : (ℓ : Loc nD τ sig) → Buf (Elt Ideal) ℓ) (ρ : Dev nD → PrngReg)

/-- The whole computation on the arguments in memory `m`. -/
def result (c : Dev nD) : Vec Ideal S32x1x7168 .bf16 :=
  swiglu (m ((c : Thread nD τ).loc main_arg0))
    (m ((c : Thread nD τ).loc main_arg1)) (numbers (m ((c : Thread nD τ).loc main_arg2))) (numbers (m ((c : Thread nD τ).loc main_arg3)))
    (m ((c : Thread nD τ).loc main_arg4)) (numbers (m ((c : Thread nD τ).loc main_arg5))) (numbers (m ((c : Thread nD τ).loc main_arg6)))
    (m ((c : Thread nD τ).loc main_arg7)) (numbers (m ((c : Thread nD τ).loc main_arg8))) (numbers (m ((c : Thread nD τ).loc main_arg9)))

/-- The contents after the launch: its six arrays written, everything else as at the start. -/
def launched (c : Dev nD) : Valuation τ sig (Elt Ideal) :=
  Pipeline.withArrays spec0 c (V0 m c) fun w => (dats m 0 c).arrAt w cfg0.N

/-- A result array of the launch, after it. -/
theorem launched_arr (c : Dev nD) (w : Fin cfg0.W) :
    launched m c (Proc.devRef .tc (Pipeline.arrRef spec0 w)) = (dats m 0 c).arrAt w cfg0.N :=
  Pipeline.withArrays_arr spec0 launch0.win.arr_inj c _ _ w

/-- A buffer that the launch does not have, after it. -/
theorem launched_of_ne (c : Dev nD) (b : Ref sig .tc) (hb : ∀ w, Pipeline.arrRef spec0 w ≠ b) :
    launched m c (Proc.devRef .tc b) = m ((c : Thread nD τ).loc b) :=
  Pipeline.withArrays_of_ne spec0 c _ _ b hb

/-- A buffer that the first two stretches of operations after the launch do not write keeps its contents across them. -/
theorem kept (W : Valuation τ sig (Elt Ideal)) (r : Ref sig .tc) (h : r ∉ hostOps1_W) (h' : r ∉ hostOps1_1_W) :
    StableHlo.after hostOps1_1 (StableHlo.after hostOps1 W) (Proc.devRef .tc r) = W (Proc.devRef .tc r) :=
  (StableHlo.after_of_writes_sub hostOps1_1 _ hostOps1_1_writes h').trans
    (StableHlo.after_of_writes_sub hostOps1 _ hostOps1_writes h)

/-- The hidden activations before the last layer are those of the arguments. -/
theorem product_eq (c : Dev nD) : product (StableHlo.after hostOps1_1 (StableHlo.after hostOps1 (launched m c))) = hidden
    (low224 (shapeCast S32x7168 (m ((c : Thread nD τ).loc main_arg0)) shapeCasts_S32x1x7168_S32x7168))
    (high224 (shapeCast S32x7168 (m ((c : Thread nD τ).loc main_arg0)) shapeCasts_S32x1x7168_S32x7168))
    (m ((c : Thread nD τ).loc main_arg1)) (numbers (m ((c : Thread nD τ).loc main_arg2))) (numbers (m ((c : Thread nD τ).loc main_arg3)))
    (m ((c : Thread nD τ).loc main_arg4)) (numbers (m ((c : Thread nD τ).loc main_arg5))) (numbers (m ((c : Thread nD τ).loc main_arg6))) := by
  have a0 : launched m c (Proc.devRef .tc main_arg0) = _ := launched_of_ne m c main_arg0 (by decide)
  have a1 : launched m c (Proc.devRef .tc main_arg1) = _ := launched_of_ne m c main_arg1 (by decide)
  have a4 : launched m c (Proc.devRef .tc main_arg4) = _ := launched_of_ne m c main_arg4 (by decide)
  have b0 : launched m c (Proc.devRef .tc main_v0_0) = _ := (launched_arr m c 6).trans (final6 m c)
  have b1 : launched m c (Proc.devRef .tc main_v0_1) = _ := (launched_arr m c 7).trans (final7 m c)
  have b2 : launched m c (Proc.devRef .tc main_v0_2) = _ := (launched_arr m c 8).trans (final8 m c)
  have b3 : launched m c (Proc.devRef .tc main_v0_3) = _ := (launched_arr m c 9).trans (final9 m c)
  have hu : StableHlo.after hostOps1_1 (StableHlo.after hostOps1 (launched m c)) (Proc.devRef .tc main_v65) = _ :=
    StableHlo.after_of_writes_sub hostOps1_1 _ hostOps1_1_writes (by decide)
  unfold product
  rw [host_silu, hu, host_gate, host_up]
  refine (gated_layers _ _ _ _ _ _ _ _).trans ?_
  unfold flat
  rw [a0, a1, a4, b0, b1, b2, b3]

/-- The last buffer of the reference's run holds the whole computation. -/
theorem result_eq (c : Dev nD) :
    Pipeline.afterTail₀ cfgs (dats m) 0 (V0 m) [hostOps1, hostOps1_1, hostOps1_2] c main_v102 = result m c := by
  unfold Pipeline.afterTail₀
  rw [List.flatten_cons, List.flatten_cons, List.flatten_cons, List.flatten_nil, List.append_nil, StableHlo.after_append,
    StableHlo.after_append]
  refine (host_out (StableHlo.after hostOps1_1 (StableHlo.after hostOps1 (launched m c)))).trans ?_
  have a7 := (kept (launched m c) main_arg7 (by decide) (by decide)).trans (launched_of_ne m c main_arg7 (by decide))
  have b4 := (kept (launched m c) main_v0_4 (by decide) (by decide)).trans ((launched_arr m c 10).trans (final10 m c))
  have b5 := (kept (launched m c) main_v0_5 (by decide) (by decide)).trans ((launched_arr m c 11).trans (final11 m c))
  rw [a7, b4, b5, product_eq m c, rounded_layer]
  rfl

/-- Every run of the reference ends with the whole computation in the result buffer and the arguments as they were. -/
theorem run : θ_run defs (onTc (τ := τ) (main (F := Ideal))) ⟨m, fun _ => 0, ρ⟩ (fun r => ∀ c : Dev nD,
      r.2.mem ((c.tc : Thread nD τ).loc main_v102) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h.1 c).2 main_v102 (Pipeline.mem_restRefs_of main_v102 (by decide) (by decide))).trans (result_eq m c), h.2 c⟩)
    (θ_run_and (run_main m ρ) (unchanged m ρ))

end Cert.ReferenceIdeal.Layers
-- ==== Proof.Decode.lean ====
/-
  The kernel's decoding of a float16 bit pattern is the value of the float16, for every pattern that is not an infinity or
  a NaN.
-/
module

public import proofs.«01_k».proof.Proof.Values

@[expose] public section

noncomputable section

namespace Cert.KernelIdeal.Chain

open Cert.KernelIdeal Cert.KernelIdeal.Gen Idealize.ShloMosaic

/-- The magnitude bits of a float16 pattern, as a word. -/
abbrev magWord (b : BitVec 16) : BitVec 32 := b.signExtend 32 &&& 32767#32

/-- The magnitude bits of a float16 pattern at the place of a float32's. -/
abbrev normalWord (b : BitVec 16) : BitVec 32 := (magWord b <<< 13) + 939524096#32

/-- The sign bit of a float16 pattern at the place of a float32's. -/
abbrev signWord (b : BitVec 16) : BitVec 32 := (b.signExtend 32 &&& 32768#32) <<< 16

/-- A mask whose lowest `n` bits are clear acts on the number without its lowest `n` bits. -/
theorem and_shifted (k c n : Nat) : k &&& (c * 2 ^ n) = ((k / 2 ^ n) &&& c) * 2 ^ n := by
  rw [← Nat.shiftLeft_eq, ← Nat.shiftLeft_eq, ← Nat.shiftRight_eq_div_pow]
  apply Nat.eq_of_testBit_eq
  intro i
  simp only [Nat.testBit_and, Nat.testBit_shiftLeft, Nat.testBit_shiftRight]
  by_cases hi : n ≤ i
  · simp [hi, Nat.add_sub_cancel' hi]
  · simp [hi]

/-- The magnitude of a pattern is the pattern without its sign bit. -/
theorem magWord_toNat (b : BitVec 16) : (magWord b).toNat = b.toNat % 32768 := by
  have hn := b.isLt
  have h : (magWord b).toNat = (b.signExtend 32).toNat % 2 ^ 15 := by
    rw [← Nat.and_two_pow_sub_one_eq_mod]; exact BitVec.toNat_and _ _
  rw [h, BitVec.toNat_signExtend, BitVec.toNat_setWidth]
  split <;> omega

/-- The sign field of a pattern, as the kernel tests it. -/
theorem signWord_ne (b : BitVec 16) : IntOp.cmpi .ne (signWord b) 0#32 = b.extractLsb' 15 1 := by
  have hn := b.isLt
  have h : (b.signExtend 32 &&& 32768#32).toNat = (b.toNat / 32768) * 32768 := by
    have h2 : (b.signExtend 32 &&& 32768#32).toNat = (b.signExtend 32).toNat &&& (1 * 2 ^ 15) := BitVec.toNat_and _ _
    rw [h2, and_shifted, show (1 : Nat) = 2 ^ 1 - 1 from rfl, Nat.and_two_pow_sub_one_eq_mod, BitVec.toNat_signExtend,
      BitVec.toNat_setWidth]
    split <;> rename_i hb <;> rw [BitVec.msb_eq_decide] at hb <;> simp at hb <;> simp <;> omega
  have hs : (signWord b).toNat = (b.toNat / 32768) * 2147483648 := by
    rw [signWord, BitVec.toNat_shiftLeft, h, Nat.shiftLeft_eq]; omega
  have he : (b.extractLsb' 15 1).toNat = b.toNat / 32768 := by
    rw [BitVec.extractLsb'_toNat, Nat.shiftRight_eq_div_pow]; omega
  rcases Nat.lt_or_ge b.toNat 32768 with hb | hb
  · have e1 : signWord b = 0#32 := BitVec.eq_of_toNat_eq (by rw [hs]; simp; omega)
    have e2 : b.extractLsb' 15 1 = 0#1 := BitVec.eq_of_toNat_eq (by rw [he]; simp; omega)
    rw [e1, e2]; rfl
  · have e1 : signWord b = 2147483648#32 := BitVec.eq_of_toNat_eq (by rw [hs]; simp; omega)
    have e2 : b.extractLsb' 15 1 = 1#1 := BitVec.eq_of_toNat_eq (by rw [he]; simp; omega)
    rw [e1, e2]; rfl

/-- The exponent field of a pattern. -/
theorem ex_eq (b : BitVec 16) : (b.extractLsb' 10 5).toNat = b.toNat / 1024 % 32 := by
  rw [BitVec.extractLsb'_toNat, Nat.shiftRight_eq_div_pow]

/-- The fraction field of a pattern. -/
theorem fr_eq (b : BitVec 16) : (b.extractLsb' 0 10).toNat = b.toNat % 1024 := by
  rw [BitVec.extractLsb'_toNat]; rfl

/-- A pattern whose exponent field is full is one the precondition excludes. -/
theorem ex_ne (b : BitVec 16) (h : b.signExtend 32 &&& 31744#32 ≠ 31744#32) : b.toNat / 1024 % 32 ≠ 31 := by
  have hn := b.isLt
  intro he
  apply h
  have h1 : (b.signExtend 32).toNat / 1024 % 32 = 31 := by
    rw [BitVec.toNat_signExtend, BitVec.toNat_setWidth]; split <;> omega
  apply BitVec.eq_of_toNat_eq
  have h2 : (b.signExtend 32 &&& 31744#32).toNat = (b.signExtend 32).toNat &&& (31 * 2 ^ 10) := BitVec.toNat_and _ _
  rw [h2]
  generalize (b.signExtend 32).toNat = k at h1
  rw [and_shifted, show (31 : Nat) = 2 ^ 5 - 1 from rfl, Nat.and_two_pow_sub_one_eq_mod]
  show k / 1024 % 32 * 1024 = 31744
  rw [h1]

/-- The pattern of the float32 that the kernel makes of a normal float16. -/
theorem normalWord_toNat (b : BitVec 16) : (normalWord b).toNat = b.toNat % 32768 * 8192 + 939524096 := by
  have hm := magWord_toNat b
  rw [normalWord, BitVec.toNat_add, BitVec.toNat_shiftLeft, hm, Nat.shiftLeft_eq]
  simp; omega

/-- A normal pattern, moved to the place of a float32's, reads as the float16's magnitude. -/
theorem ofBits_normalWord (b : BitVec 16) (h0 : b.toNat / 1024 % 32 ≠ 0) (h1 : b.toNat / 1024 % 32 ≠ 31) :
    Ideal.ofBits .f32 (normalWord b)
      = ((((1024 + b.toNat % 1024 : Nat) : ℝ) * (2 : ℝ) ^ (((b.toNat / 1024 % 32 : Nat) : ℤ) - 25) : ℝ) : EReal) := by
  have hn := normalWord_toNat b
  have hs : (normalWord b).extractLsb' 31 1 = 0#1 := by
    apply BitVec.eq_of_toNat_eq
    rw [BitVec.extractLsb'_toNat, Nat.shiftRight_eq_div_pow, hn]; simp; omega
  have he : ((normalWord b).extractLsb' 23 8).toNat = b.toNat / 1024 % 32 + 112 := by
    rw [BitVec.extractLsb'_toNat, Nat.shiftRight_eq_div_pow, hn]; omega
  have hf : ((normalWord b).extractLsb' 0 23).toNat = b.toNat % 1024 * 8192 := by
    rw [BitVec.extractLsb'_toNat, hn]; simp; omega
  show Ideal.ieee 8 23 (normalWord b) = _
  simp only [Ideal.ieee, hs, he, hf]
  rw [if_neg (by omega), if_neg (by omega)]
  generalize b.toNat / 1024 % 32 = x
  generalize b.toNat % 1024 = y
  have hk : ((x + 112 : Nat) : ℤ) - (2 ^ (8 - 1) - 1) - (23 : Nat) = (x : ℤ) - 25 + (-13) := by push_cast; ring
  rw [hk, zpow_add₀ (by norm_num : (2 : ℝ) ≠ 0)]
  refine congrArg (fun r : ℝ => (r : EReal)) ?_
  push_cast
  generalize (2 : ℝ) ^ ((x : ℤ) - 25) = z
  have h13 : (2 : ℝ) ^ (-13 : ℤ) = 1 / 8192 := by norm_num
  rw [h13]
  ring

/-- `-1` as the kernel writes it. -/
theorem ofBits_neg_one : Ideal.ofBits .f32 0xBF800000#32 = ((-1 : ℝ) : EReal) := by
  have hs : (0xBF800000#32).extractLsb' 31 1 = 1#1 := by decide
  have he : ((0xBF800000#32).extractLsb' 23 8).toNat = 127 := by decide
  have hf : ((0xBF800000#32).extractLsb' 0 23).toNat = 0 := by decide
  show Ideal.ieee 8 23 0xBF800000#32 = _
  simp only [Ideal.ieee, hs, he, hf]
  rw [if_neg (by omega), if_neg (by omega)]
  congr 1
  norm_num

/-- The unit of the subnormal float16 numbers, as the kernel writes it. -/
theorem ofBits_unit : Ideal.ofBits .f32 0x33800000#32 = (((2 : ℝ) ^ (-24 : ℤ) : ℝ) : EReal) := by
  have hs : (0x33800000#32).extractLsb' 31 1 = 0#1 := by decide
  have he : ((0x33800000#32).extractLsb' 23 8).toNat = 103 := by decide
  have hf : ((0x33800000#32).extractLsb' 0 23).toNat = 0 := by decide
  show Ideal.ieee 8 23 0x33800000#32 = _
  simp only [Ideal.ieee, hs, he, hf]
  rw [if_neg (by omega), if_neg (by omega)]
  congr 1
  norm_num

/-- The float16 number of a pattern, by its fields. -/
theorem ofBits_f16 (b : BitVec 16) (h1 : b.toNat / 1024 % 32 ≠ 31) :
    Ideal.ofBits .f16 b = (((if b.extractLsb' 15 1 == 1#1 then -1 else 1 : ℝ) *
      (if b.toNat / 1024 % 32 = 0 then ((b.toNat % 1024 : Nat) : ℝ) * (2 : ℝ) ^ (-24 : ℤ)
       else ((1024 + b.toNat % 1024 : Nat) : ℝ) * (2 : ℝ) ^ (((b.toNat / 1024 % 32 : Nat) : ℤ) - 25)) : ℝ) : EReal) := by
  show Ideal.ieee 5 10 b = _
  simp only [Ideal.ieee, ex_eq, fr_eq]
  rw [if_neg (by omega)]
  by_cases h0 : b.toNat / 1024 % 32 = 0
  · rw [if_pos h0, if_pos h0, mul_assoc]; norm_num
  · rw [if_neg h0, if_neg h0, mul_assoc, sub_sub]; norm_num

/-- For every pattern that is no infinity and no NaN, the kernel's decoding is the float16 number. -/
theorem decodeWord_eq (b : BitVec 16) (h : b.signExtend 32 &&& 31744#32 ≠ 31744#32) :
    decodeWord b = Ideal.ofBits .f16 b := by
  have h1 := ex_ne b h
  have hm := magWord_toNat b
  rw [ofBits_f16 b h1]
  have e : decodeWord b = Scalar.select (IntOp.cmpi .ne (signWord b) 0#32)
      ((Scalar.select (IntOp.cmpi .sge (magWord b) 1024#32) (Ideal.ofBits .f32 (normalWord b))
        ((((magWord b).toInt : ℝ) : EReal) * Ideal.ofBits .f32 0x33800000#32)) * Ideal.ofBits .f32 0xBF800000#32)
      (Scalar.select (IntOp.cmpi .sge (magWord b) 1024#32) (Ideal.ofBits .f32 (normalWord b))
        ((((magWord b).toInt : ℝ) : EReal) * Ideal.ofBits .f32 0x33800000#32)) := rfl
  have hlt : (magWord b).toNat < 2 ^ 31 := by omega
  have hi : (magWord b).toInt = ((b.toNat % 32768 : Nat) : ℤ) := by
    rw [BitVec.toInt_eq_toNat_of_lt (by omega), hm]
  have hc : IntOp.cmpi .sge (magWord b) 1024#32 = if b.toNat / 1024 % 32 = 0 then 0#1 else 1#1 := by
    show BitVec.ofBool ((1024#32).sle (magWord b)) = _
    rw [BitVec.sle_eq_decide, hi, show (1024#32).toInt = 1024 from rfl]
    by_cases h0 : b.toNat / 1024 % 32 = 0
    · rw [if_pos h0, decide_eq_false (by omega)]; rfl
    · rw [if_neg h0, decide_eq_true (by omega)]; rfl
  have hv : Scalar.select (IntOp.cmpi .sge (magWord b) 1024#32) (Ideal.ofBits .f32 (normalWord b))
        ((((magWord b).toInt : ℝ) : EReal) * Ideal.ofBits .f32 0x33800000#32)
      = (((if b.toNat / 1024 % 32 = 0 then ((b.toNat % 1024 : Nat) : ℝ) * (2 : ℝ) ^ (-24 : ℤ)
       else ((1024 + b.toNat % 1024 : Nat) : ℝ) * (2 : ℝ) ^ (((b.toNat / 1024 % 32 : Nat) : ℤ) - 25)) : ℝ) : EReal) := by
    rw [hc]
    by_cases h0 : b.toNat / 1024 % 32 = 0
    · rw [if_pos h0, if_pos h0, ofBits_unit, ← EReal.coe_mul, hi, show b.toNat % 32768 = b.toNat % 1024 by omega]
      rfl
    · rw [if_neg h0, if_neg h0, ofBits_normalWord b h0 h1]
      rfl
  rw [e, hv, ofBits_neg_one, ← EReal.coe_mul, signWord_ne]
  rcases BitVec.eq_zero_or_eq_one (b.extractLsb' 15 1) with hs | hs
  · rw [hs, show ((0#1 : BitVec 1) == 1#1) = false from rfl, if_neg Bool.false_ne_true, one_mul]; rfl
  · rw [hs, show ((1#1 : BitVec 1) == 1#1) = true from rfl, if_pos rfl, mul_comm]; rfl

end Cert.KernelIdeal.Chain
-- ==== Proof.Finite.lean ====
/-
  What the precondition says: no scale and no minimum is the pattern of an infinity or of a NaN.
-/
module

public import proofs.«01_k».proof.Proof.Decode
public import proofs.«01_k».proof.Proof.RefArrays
public import proofs.«01_k».proof.Pre_finite
public import Idealize.ShloMosaic.Lib.ReduceAll

@[expose] public section

noncomputable section

namespace Cert.Pre_finite

open Idealize.ShloMosaic
open Cert.KernelIdeal.Chain (decodeWord decodeWord_eq)
open Cert.ReferenceIdeal.Layers (numbers)
open Facts

variable [Facts]

/-- Both sides of an `and` that is all ones are all ones. -/
theorem both {s : Shape} (x y : IVec s 1) (h : andi x y = fun _ => 1#1) :
    x = (fun _ => 1#1) ∧ y = fun _ => 1#1 :=
  ⟨funext fun j => (IntOp.andi_eq_one.1 (congrFun h j)).1, funext fun j => (IntOp.andi_eq_one.1 (congrFun h j)).2⟩

/-- The precondition's test of one 9216×224 array: is no pattern's exponent field all ones? -/
def all224 (b : IVec S9216x224 16) : IVec S_ 1 :=
  Host.reduce IntOp.andi
    (cmpi .ne (andi (extsi 32 b natLt_16_32) (broadcastInDim S9216x224 ![] bcast_S_S9216x224 (constantI S_ 32 31744#32)))
      (broadcastInDim S9216x224 ![] bcast_S_S9216x224 (constantI S_ 32 31744#32)))
    (constantI S_ 1 1#1) reducesTo_S9216x224_S_d0_1 h_S_

/-- The same of one 7168×288 array. -/
def all288 (b : IVec S7168x288 16) : IVec S_ 1 :=
  Host.reduce IntOp.andi
    (cmpi .ne (andi (extsi 32 b natLt_16_32) (broadcastInDim S7168x288 ![] bcast_S_S7168x288 (constantI S_ 32 31744#32)))
      (broadcastInDim S7168x288 ![] bcast_S_S7168x288 (constantI S_ 32 31744#32)))
    (constantI S_ 1 1#1) reducesTo_S7168x288_S_d0_1 h_S_

/-- The patterns of an array that passes the test decode to the numbers they stand for. -/
theorem decode224 (b : IVec S9216x224 16) (h : all224 b = fun _ => 1#1) :
    (fun j => decodeWord (b j)) = numbers b :=
  funext fun j => decodeWord_eq (b j)
    (IntOp.cmpi_ne.1 (Host.reduce_andi_all _ _ _ _ (fun k => k.elim0) (congrFun h _) j))

/-- The same of a 7168×288 array. -/
theorem decode288 (b : IVec S7168x288 16) (h : all288 b = fun _ => 1#1) :
    (fun j => decodeWord (b j)) = numbers b :=
  funext fun j => decodeWord_eq (b j)
    (IntOp.cmpi_ne.1 (Host.reduce_andi_all _ _ _ _ (fun k => k.elim0) (congrFun h _) j))

/-- The precondition is the test of all six arrays. -/
theorem fn_eq (x : FVec Ideal S32x1x7168 .bf16) (q1 : IVec S9216x3584 8) (s1 m1 : IVec S9216x224 16)
    (q2 : IVec S9216x3584 8) (s2 m2 : IVec S9216x224 16) (q3 : IVec S7168x4608 8) (s3 m3 : IVec S7168x288 16) :
    fn (F := Ideal) x q1 s1 m1 q2 s2 m2 q3 s3 m3 =
      andi (andi (andi (andi (andi (all224 s1) (all224 m1)) (all224 s2)) (all224 m2)) (all288 s3)) (all288 m3) :=
  rfl

/-- Under the precondition the patterns of each of the six arrays decode to the numbers they stand for. -/
theorem decode_all (x : FVec Ideal S32x1x7168 .bf16) (q1 : IVec S9216x3584 8) (s1 m1 : IVec S9216x224 16)
    (q2 : IVec S9216x3584 8) (s2 m2 : IVec S9216x224 16) (q3 : IVec S7168x4608 8) (s3 m3 : IVec S7168x288 16)
    (h : fn (F := Ideal) x q1 s1 m1 q2 s2 m2 q3 s3 m3 = fun _ => 1#1) :
    ((fun j => decodeWord (s1 j)) = numbers s1 ∧ (fun j => decodeWord (m1 j)) = numbers m1)
    ∧ ((fun j => decodeWord (s2 j)) = numbers s2 ∧ (fun j => decodeWord (m2 j)) = numbers m2)
    ∧ ((fun j => decodeWord (s3 j)) = numbers s3 ∧ (fun j => decodeWord (m3 j)) = numbers m3) := by
  rw [fn_eq] at h
  obtain ⟨h, h6⟩ := both _ _ h
  obtain ⟨h, h5⟩ := both _ _ h
  obtain ⟨h, h4⟩ := both _ _ h
  obtain ⟨h, h3⟩ := both _ _ h
  obtain ⟨h1, h2⟩ := both _ _ h
  exact ⟨⟨decode224 s1 h1, decode224 m1 h2⟩, ⟨decode224 s2 h3, decode224 m2 h4⟩, ⟨decode288 s3 h5, decode288 m3 h6⟩⟩

end Cert.Pre_finite
-- ==== Proof.Agree.lean ====
/-
  The two runs leave the same result: the kernel's, on the patterns it decodes itself, and the reference's,
  on the numbers those patterns stand for.
-/
module

public import proofs.«01_k».proof.Proof.KernelRun
public import proofs.«01_k».proof.Proof.RefRun
public import proofs.«01_k».proof.Proof.Finite

@[expose] public section

noncomputable section

namespace Cert.Agree

open Idealize.ShloMosaic Idealize.SL.Sem Cert.KernelIdeal
open Cert.KernelIdeal.Chain (decodeWord swiglu)
open Cert.ReferenceIdeal.Layers (numbers)

variable [Cert.Pre_finite.Facts]
/-- Under the precondition the computation on the decoded patterns is that on the numbers they stand for. -/
theorem swiglu_eq (x : Vec Ideal S32x1x7168 .bf16) (q1 : Vec Ideal S9216x3584 .i8) (s1 m1 : Vec Ideal S9216x224 .i16)
    (q2 : Vec Ideal S9216x3584 .i8) (s2 m2 : Vec Ideal S9216x224 .i16) (q3 : Vec Ideal S7168x4608 .i8)
    (s3 m3 : Vec Ideal S7168x288 .i16) (hpre : Cert.Pre_finite.fn (F := Ideal) x q1 s1 m1 q2 s2 m2 q3 s3 m3 = fun _ => 1#1) :
    swiglu x q1 (numbers s1) (numbers m1) q2 (numbers s2) (numbers m2) q3 (numbers s3) (numbers m3) =
      swiglu x q1 (fun j => decodeWord (s1 j)) (fun j => decodeWord (m1 j)) q2 (fun j => decodeWord (s2 j))
        (fun j => decodeWord (m2 j)) q3 (fun j => decodeWord (s3 j)) (fun j => decodeWord (m3 j)) := by
  obtain ⟨⟨e2, e3⟩, ⟨e5, e6⟩, e8, e9⟩ := Cert.Pre_finite.decode_all x q1 s1 m1 q2 s2 m2 q3 s3 m3 hpre
  rw [← e2, ← e3, ← e5, ← e6, ← e8, ← e9]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From equal arguments that the precondition holds of, the reference's result is the kernel's. -/
theorem result_eq (c : Dev Cert.KernelIdeal.nD)
    (hpre : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) = fun _ => 1#1)
    (h0 : m' ((c.tc : Thread ReferenceIdeal.nD ReferenceIdeal.τ).loc ReferenceIdeal.main_arg0) = m ((c.tc : Thread nD τ).loc main_arg0))
    (h1 : m' ((c.tc : Thread ReferenceIdeal.nD ReferenceIdeal.τ).loc ReferenceIdeal.main_arg1) = m ((c.tc : Thread nD τ).loc main_arg1))
    (h2 : m' ((c.tc : Thread ReferenceIdeal.nD ReferenceIdeal.τ).loc ReferenceIdeal.main_arg2) = m ((c.tc : Thread nD τ).loc main_arg2))
    (h3 : m' ((c.tc : Thread ReferenceIdeal.nD ReferenceIdeal.τ).loc ReferenceIdeal.main_arg3) = m ((c.tc : Thread nD τ).loc main_arg3))
    (h4 : m' ((c.tc : Thread ReferenceIdeal.nD ReferenceIdeal.τ).loc ReferenceIdeal.main_arg4) = m ((c.tc : Thread nD τ).loc main_arg4))
    (h5 : m' ((c.tc : Thread ReferenceIdeal.nD ReferenceIdeal.τ).loc ReferenceIdeal.main_arg5) = m ((c.tc : Thread nD τ).loc main_arg5))
    (h6 : m' ((c.tc : Thread ReferenceIdeal.nD ReferenceIdeal.τ).loc ReferenceIdeal.main_arg6) = m ((c.tc : Thread nD τ).loc main_arg6))
    (h7 : m' ((c.tc : Thread ReferenceIdeal.nD ReferenceIdeal.τ).loc ReferenceIdeal.main_arg7) = m ((c.tc : Thread nD τ).loc main_arg7))
    (h8 : m' ((c.tc : Thread ReferenceIdeal.nD ReferenceIdeal.τ).loc ReferenceIdeal.main_arg8) = m ((c.tc : Thread nD τ).loc main_arg8))
    (h9 : m' ((c.tc : Thread ReferenceIdeal.nD ReferenceIdeal.τ).loc ReferenceIdeal.main_arg9) = m ((c.tc : Thread nD τ).loc main_arg9)) :
    Cert.ReferenceIdeal.Layers.result m' c = Cert.KernelIdeal.Chain.result m c := by
  unfold Cert.ReferenceIdeal.Layers.result
  rw [h0, h1, h2, h3, h4, h5, h6, h7, h8, h9]
  exact swiglu_eq _ _ _ _ _ _ _ _ _ _ hpre

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From equal arguments of which the precondition holds, the kernel and the reference end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre h
  refine ⟨fun c => Cert.KernelIdeal.Chain.result m c, Cert.KernelIdeal.Chain.run m g, ?_⟩
  refine (θ_run _ _ _).mono (fun _ hr c => ⟨(hr c).1.trans ?_, (hr c).2⟩) (Cert.ReferenceIdeal.Layers.run m' g')
  obtain ⟨h0, h1, h2, h3, h4, h5, h6, h7, h8, h9⟩ := h c
  exact Cert.Agree.result_eq m m' c (hpre c) h0 h1 h2 h3 h4 h5 h6 h7 h8 h9

/-- Everything claimed: the three programs run and leave their arguments, the idealized kernel is the kernel's program,
    and it computes the reference's result. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
